-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50_0) = v0 c
          ∧ r.2.mem ((c.tc : Thread Cert.ReferenceIdeal.nD Cert.ReferenceIdeal.τ).loc Cert.ReferenceIdeal.main_v50_1) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S8192x16384 : Shape := ⟨2, ![8192, 16384]⟩
abbrev S64x128 : Shape := ⟨2, ![64, 128]⟩
abbrev S192x8192 : Shape := ⟨2, ![192, 8192]⟩
abbrev S192x16384 : Shape := ⟨2, ![192, 16384]⟩
abbrev S192x64 : Shape := ⟨2, ![192, 64]⟩
abbrev S8192x256 : Shape := ⟨2, ![8192, 256]⟩
abbrev S192x256 : Shape := ⟨2, ![192, 256]⟩
abbrev S64x192x128 : Shape := ⟨3, ![64, 192, 128]⟩
abbrev S192x128 : Shape := ⟨2, ![192, 128]⟩
abbrev S192 : Shape := ⟨1, ![192]⟩
abbrev S192x1 : Shape := ⟨2, ![192, 1]⟩
abbrev S1x192x128 : Shape := ⟨3, ![1, 192, 128]⟩
abbrev S128x256 : Shape := ⟨2, ![128, 256]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S192x1x8192, .bf16⟩
  | .hbm, ⟨1, _⟩ => ⟨S8192x16384, .fp8e4m3⟩
  | .hbm, ⟨2, _⟩ => ⟨S64x128, .f32⟩
  | .hbm, ⟨3, _⟩ => ⟨S192x8192, .bf16⟩
  | .hbm, ⟨4, _⟩ => ⟨S192x16384, .bf16⟩
  | .hbm, ⟨5, _⟩ => ⟨S192x8192, .fp8e4m3⟩
  | .hbm, ⟨6, _⟩ => ⟨S192x64, .f32⟩
  | .local _ .vmem, ⟨0, _⟩ => ⟨S192x8192, .bf16⟩
  | .local _ .vmem, ⟨1, _⟩ => ⟨S8192x256, .fp8e4m3⟩
  | .local _ .vmem, ⟨2, _⟩ => ⟨S8192x256, .fp8e4m3⟩
  | .local _ .vmem, ⟨3, _⟩ => ⟨S192x256, .bf16⟩
  | .local _ .vmem, ⟨4, _⟩ => ⟨S192x256, .bf16⟩
  | .local _ .vmem, ⟨5, _⟩ => ⟨S192x8192, .fp8e4m3⟩
  | .local _ .vmem, ⟨6, _⟩ => ⟨S192x64, .f32⟩
  | .local _ .vmem, ⟨7, _⟩ => ⟨S64x192x128, .f32⟩
  | .local _ .smem, ⟨0, _⟩ => ⟨S64x128, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_774 : BitVec 32 := 0#32
  let c64_i32 : BitVec 32 := 64#32
  let v1547 : BitVec 32 := Scalar.addi c0_i32_774 c64_i32
  let c1_i32_775 : BitVec 32 := 1#32
  ⟨c0_i32_774, v1547, c1_i32_775⟩
def k0_mult1 (k0_t1 : Fin k0_t1_loop.trips) : BitVec 32 :=
  let c0_i32_774 : BitVec 32 := 0#32
  let c1_i32_775 : BitVec 32 := 1#32
  let arg8 : BitVec 32 := Scf.iv c0_i32_774 c1_i32_775 k0_t1
  let c128_i32 : BitVec 32 := 128#32
  let v1551 : BitVec 32 := Scalar.muli arg8 c128_i32
  v1551
def k0_off1 (k0_t1 : Fin k0_t1_loop.trips) : Fin 2 → Nat :=
  let c0_779 : Index := 0#32
  let c0_i32_774 : BitVec 32 := 0#32
  let c1_i32_775 : BitVec 32 := 1#32
  let arg8 : BitVec 32 := Scf.iv c0_i32_774 c1_i32_775 k0_t1
  let c128_i32 : BitVec 32 := 128#32
  let v1551 : BitVec 32 := Scalar.muli arg8 c128_i32
  let v1552 : BitVec 32 := v1551
  let v1553 : Index := Scalar.indexCast v1552
  ![0, v1553.toNat]
def k0_off2 (k0_t1 : Fin k0_t1_loop.trips) : Fin 3 → Nat :=
  let c0_i32_774 : BitVec 32 := 0#32
  let c1_i32_775 : BitVec 32 := 1#32
  let arg8 : BitVec 32 := Scf.iv c0_i32_774 c1_i32_775 k0_t1
  let v1686 : Index := Scalar.indexCast arg8
  let c0_820 : Index := 0#32
  let c0_821 : Index := 0#32
  ![v1686.toNat, 0, 0]
def k0_off3 (i : grid0.Coords) (c0_i32_9 : BitVec 32) : Fin 2 → Nat :=
  let c0_10 : Index := 0#32
  let arg0 : BitVec 32 := BitVec.ofNat 32 (i 0).val
  let c2_i32 : BitVec 32 := 2#32
  let v11 : BitVec 32 := Scalar.muli arg0 c2_i32
  let v12 : BitVec 32 := Scalar.addi v11 c0_i32_9
  let v13 : Index := Scalar.indexCast v12
  ![0, v13.toNat]
def k0_off4 (i : grid0.Coords) (c0_i32_20 : BitVec 32) : Fin 2 → Nat :=
  let c1_21 : Index := 1#32
  let arg0 : BitVec 32 := BitVec.ofNat 32 (i 0).val
  let c2_i32_19 : BitVec 32 := 2#32
  let v35 : BitVec 32 := Scalar.muli arg0 c2_i32_19
  let v36 : BitVec 32 := Scalar.addi v35 c0_i32_20
  let v37 : Index := Scalar.indexCast v36
  ![1, v37.toNat]
def k0_off5 (i : grid0.Coords) (c0_i32_32 : BitVec 32) : Fin 2 → Nat :=
  let c2_33 : Index := 2#32
  let arg0 : BitVec 32 := BitVec.ofNat 32 (i 0).val
  let c2_i32_31 : BitVec 32 := 2#32
  let v59 : BitVec 32 := Scalar.muli arg0 c2_i32_31
  let v60 : BitVec 32 := Scalar.addi v59 c0_i32_32
  let v61 : Index := Scalar.indexCast v60
  ![2, v61.toNat]
def k0_off6 (i : grid0.Coords) (c0_i32_44 : BitVec 32) : Fin 2 → Nat :=
  let c3_45 : Index := 3#32
  let arg0 : BitVec 32 := BitVec.ofNat 32 (i 0).val
  let c2_i32_43 : BitVec 32 := 2#32
  let v83 : BitVec 32 := Scalar.muli arg0 c2_i32_43
  let v84 : BitVec 32 := Scalar.addi v83 c0_i32_44
  let v85 : Index := Scalar.indexCast v84
  ![3, v85.toNat]
def k0_off7 (i : grid0.Coords) (c0_i32_56 : BitVec 32) : Fin 2 → Nat :=
  let c4_57 : Index := 4#32
  let arg0 : BitVec 32 := BitVec.ofNat 32 (i 0).val
  let c2_i32_55 : BitVec 32 := 2#32
  let v107 : BitVec 32 := Scalar.muli arg0 c2_i32_55
  let v108 : BitVec 32 := Scalar.addi v107 c0_i32_56
  let v109 : Index := Scalar.indexCast v108
  ![4, v109.toNat]
def k0_off8 (i : grid0.Coords) (c0_i32_68 : BitVec 32) : Fin 2 → Nat :=
  let c5_69 : Index := 5#32
  let arg0 : BitVec 32 := BitVec.ofNat 32 (i 0).val
  let c2_i32_67 : BitVec 32 := 2#32
  let v131 : BitVec 32 := Scalar.muli arg0 c2_i32_67
  let v132 : BitVec 32 := Scalar.addi v131 c0_i32_68
  let v133 : Index := Scalar.indexCast v132
  ![5, v133.toNat]
def k0_off9 (i : grid0.Coords) (c0_i32_80 : BitVec 32) : Fin 2 → Nat :=
  let c6_81 : Index := 6#32
  let arg0 : BitVec 32 := BitVec.ofNat 32 (i 0).val
  let c2_i32_79 : BitVec 32 := 2#32
  let v155 : BitVec 32 := Scalar.muli arg0 c2_i32_79
  let v156 : BitVec 32 := Scalar.addi v155 c0_i32_80
  let v157 : Index := Scalar.indexCast v156
  ![6, v157.toNat]
def k0_off10 (i : grid0.Coords) (c0_i32_92 : BitVec 32) : Fin 2 → Nat :=
  let c7_93 : Index := 7#32
  let arg0 : BitVec 32 := BitVec.ofNat 32 (i 0).val
  let c2_i32_91 : BitVec 32 := 2#32
  let v179 : BitVec 32 := Scalar.muli arg0 c2_i32_91
  let v180 : BitVec 32 := Scalar.addi v179 c0_i32_92
  let v181 : Index := Scalar.indexCast v180
  ![7, v181.toNat]
def k0_off11 (i : grid0.Coords) (c0_i32_104 : BitVec 32) : Fin 2 → Nat :=
  let c8_105 : Index := 8#32
  let arg0 : BitVec 32 := BitVec.ofNat 32 (i 0).val
  let c2_i32_103 : BitVec 32 := 2#32
  let v203 : BitVec 32 := Scalar.muli arg0 c2_i32_103
  let v204 : BitVec 32 := Scalar.addi v203 c0_i32_104
  let v205 : Index := Scalar.indexCast v204
  ![8, v205.toNat]
def k0_off12 (i : grid0.Coords) (c0_i32_116 : BitVec 32) : Fin 2 → Nat :=
  let c9_117 : Index := 9#32
  let arg0 : BitVec 32 := BitVec.ofNat 32 (i 0).val
  let c2_i32_115 : BitVec 32 := 2#32
  let v227 : BitVec 32 := Scalar.muli arg0 c2_i32_115
  let v228 : BitVec 32 := Scalar.addi v227 c0_i32_116
  let v229 : Index := Scalar.indexCast v228
  ![9, v229.toNat]
def k0_off13 (i : grid0.Coords) (c0_i32_128 : BitVec 32) : Fin 2 → Nat :=
  let c10_129 : Index := 10#32
  let arg0 : BitVec 32 := BitVec.ofNat 32 (i 0).val
  let c2_i32_127 : BitVec 32 := 2#32
  let v251 : BitVec 32 := Scalar.muli arg0 c2_i32_127
  let v252 : BitVec 32 := Scalar.addi v251 c0_i32_128
  let v253 : Index := Scalar.indexCast v252
  ![10, v253.toNat]
def k0_off14 (i : grid0.Coords) (c0_i32_140 : BitVec 32) : Fin 2 → Nat :=
  let c11_141 : Index := 11#32
  let arg0 : BitVec 32 := BitVec.ofNat 32 (i 0).val
  let c2_i32_139 : BitVec 32 := 2#32
  let v275 : BitVec 32 := Scalar.muli arg0 c2_i32_139
  let v276 : BitVec 32 := Scalar.addi v275 c0_i32_140
  let v277 : Index := Scalar.indexCast v276
  ![11, v277.toNat]
def k0_off15 (i : grid0.Coords) (c0_i32_152 : BitVec 32) : Fin 2 → Nat :=
  let c12_153 : Index := 12#32
  let arg0 : BitVec 32 := BitVec.ofNat 32 (i 0).val
  let c2_i32_151 : BitVec 32 := 2#32
  let v299 : BitVec 32 := Scalar.muli arg0 c2_i32_151
  let v300 : BitVec 32 := Scalar.addi v299 c0_i32_152
  let v301 : Index := Scalar.indexCast v300
  ![12, v301.toNat]
def k0_off16 (i : grid0.Coords) (c0_i32_164 : BitVec 32) : Fin 2 → Nat :=
  let c13_165 : Index := 13#32
  let arg0 : BitVec 32 := BitVec.ofNat 32 (i 0).val
  let c2_i32_163 : BitVec 32 := 2#32
  let v323 : BitVec 32 := Scalar.muli arg0 c2_i32_163
  let v324 : BitVec 32 := Scalar.addi v323 c0_i32_164
  let v325 : Index := Scalar.indexCast v324
  ![13, v325.toNat]
def k0_off17 (i : grid0.Coords) (c0_i32_176 : BitVec 32) : Fin 2 → Nat :=
  let c14_177 : Index := 14#32
  let arg0 : BitVec 32 := BitVec.ofNat 32 (i 0).val
  let c2_i32_175 : BitVec 32 := 2#32
  let v347 : BitVec 32 := Scalar.muli arg0 c2_i32_175
  let v348 : BitVec 32 := Scalar.addi v347 c0_i32_176
  let v349 : Index := Scalar.indexCast v348
  ![14, v349.toNat]
def k0_off18 (i : grid0.Coords) (c0_i32_188 : BitVec 32) : Fin 2 → Nat :=
  let c15_189 : Index := 15#32
  let arg0 : BitVec 32 := BitVec.ofNat 32 (i 0).val
  let c2_i32_187 : BitVec 32 := 2#32
  let v371 : BitVec 32 := Scalar.muli arg0 c2_i32_187
  let v372 : BitVec 32 := Scalar.addi v371 c0_i32_188
  let v373 : Index := Scalar.indexCast v372
  ![15, v373.toNat]
def k0_off19 (i : grid0.Coords) (c0_i32_200 : BitVec 32) : Fin 2 → Nat :=
  let c16_201 : Index := 16#32
  let arg0 : BitVec 32 := BitVec.ofNat 32 (i 0).val
  let c2_i32_199 : BitVec 32 := 2#32
  let v395 : BitVec 32 := Scalar.muli arg0 c2_i32_199
  let v396 : BitVec 32 := Scalar.addi v395 c0_i32_200
  let v397 : Index := Scalar.indexCast v396
  ![16, v397.toNat]
def k0_off20 (i : grid0.Coords) (c0_i32_212 : BitVec 32) : Fin 2 → Nat :=
  let c17_213 : Index := 17#32
  let arg0 : BitVec 32 := BitVec.ofNat 32 (i 0).val
  let c2_i32_211 : BitVec 32 := 2#32
  let v419 : BitVec 32 := Scalar.muli arg0 c2_i32_211
  let v420 : BitVec 32 := Scalar.addi v419 c0_i32_212
  let v421 : Index := Scalar.indexCast v420
  ![17, v421.toNat]
def k0_off21 (i : grid0.Coords) (c0_i32_224 : BitVec 32) : Fin 2 → Nat :=
  let c18_225 : Index := 18#32
  let arg0 : BitVec 32 := BitVec.ofNat 32 (i 0).val
  let c2_i32_223 : BitVec 32 := 2#32
  let v443 : BitVec 32 := Scalar.muli arg0 c2_i32_223
  let v444 : BitVec 32 := Scalar.addi v443 c0_i32_224
  let v445 : Index := Scalar.indexCast v444
  ![18, v445.toNat]
def k0_off22 (i : grid0.Coords) (c0_i32_236 : BitVec 32) : Fin 2 → Nat :=
  let c19_237 : Index := 19#32
  let arg0 : BitVec 32 := BitVec.ofNat 32 (i 0).val
  let c2_i32_235 : BitVec 32 := 2#32
  let v467 : BitVec 32 := Scalar.muli arg0 c2_i32_235
  let v468 : BitVec 32 := Scalar.addi v467 c0_i32_236
  let v469 : Index := Scalar.indexCast v468
  ![19, v469.toNat]
def k0_off23 (i : grid0.Coords) (c0_i32_248 : BitVec 32) : Fin 2 → Nat :=
  let c20_249 : Index := 20#32
  let arg0 : BitVec 32 := BitVec.ofNat 32 (i 0).val
  let c2_i32_247 : BitVec 32 := 2#32
  let v491 : BitVec 32 := Scalar.muli arg0 c2_i32_247
  let v492 : BitVec 32 := Scalar.addi v491 c0_i32_248
  let v493 : Index := Scalar.indexCast v492
  ![20, v493.toNat]
def k0_off24 (i : grid0.Coords) (c0_i32_260 : BitVec 32) : Fin 2 → Nat :=
  let c21_261 : Index := 21#32
  let arg0 : BitVec 32 := BitVec.ofNat 32 (i 0).val
  let c2_i32_259 : BitVec 32 := 2#32
  let v515 : BitVec 32 := Scalar.muli arg0 c2_i32_259
  let v516 : BitVec 32 := Scalar.addi v515 c0_i32_260
  let v517 : Index := Scalar.indexCast v516
  ![21, v517.toNat]
def k0_off25 (i : grid0.Coords) (c0_i32_272 : BitVec 32) : Fin 2 → Nat :=
  let c22_273 : Index := 22#32
  let arg0 : BitVec 32 := BitVec.ofNat 32 (i 0).val
  let c2_i32_271 : BitVec 32 := 2#32
  let v539 : BitVec 32 := Scalar.muli arg0 c2_i32_271
  let v540 : BitVec 32 := Scalar.addi v539 c0_i32_272
  let v541 : Index := Scalar.indexCast v540
  ![22, v541.toNat]
def k0_off26 (i : grid0.Coords) (c0_i32_284 : BitVec 32) : Fin 2 → Nat :=
  let c23_285 : Index := 23#32
  let arg0 : BitVec 32 := BitVec.ofNat 32 (i 0).val
  let c2_i32_283 : BitVec 32 := 2#32
  let v563 : BitVec 32 := Scalar.muli arg0 c2_i32_283
  let v564 : BitVec 32 := Scalar.addi v563 c0_i32_284
  let v565 : Index := Scalar.indexCast v564
  ![23, v565.toNat]
def k0_off27 (i : grid0.Coords) (c0_i32_296 : BitVec 32) : Fin 2 → Nat :=
  let c24_297 : Index := 24#32
  let arg0 : BitVec 32 := BitVec.ofNat 32 (i 0).val
  let c2_i32_295 : BitVec 32 := 2#32
  let v587 : BitVec 32 := Scalar.muli arg0 c2_i32_295
  let v588 : BitVec 32 := Scalar.addi v587 c0_i32_296
  let v589 : Index := Scalar.indexCast v588
  ![24, v589.toNat]
def k0_off28 (i : grid0.Coords) (c0_i32_308 : BitVec 32) : Fin 2 → Nat :=
  let c25_309 : Index := 25#32
  let arg0 : BitVec 32 := BitVec.ofNat 32 (i 0).val
  let c2_i32_307 : BitVec 32 := 2#32
  let v611 : BitVec 32 := Scalar.muli arg0 c2_i32_307
  let v612 : BitVec 32 := Scalar.addi v611 c0_i32_308
  let v613 : Index := Scalar.indexCast v612
  ![25, v613.toNat]
def k0_off29 (i : grid0.Coords) (c0_i32_320 : BitVec 32) : Fin 2 → Nat :=
  let c26_321 : Index := 26#32
  let arg0 : BitVec 32 := BitVec.ofNat 32 (i 0).val
  let c2_i32_319 : BitVec 32 := 2#32
  let v635 : BitVec 32 := Scalar.muli arg0 c2_i32_319
  let v636 : BitVec 32 := Scalar.addi v635 c0_i32_320
  let v637 : Index := Scalar.indexCast v636
  ![26, v637.toNat]
def k0_off30 (i : grid0.Coords) (c0_i32_332 : BitVec 32) : Fin 2 → Nat :=
  let c27_333 : Index := 27#32
  let arg0 : BitVec 32 := BitVec.ofNat 32 (i 0).val
  let c2_i32_331 : BitVec 32 := 2#32
  let v659 : BitVec 32 := Scalar.muli arg0 c2_i32_331
  let v660 : BitVec 32 := Scalar.addi v659 c0_i32_332
  let v661 : Index := Scalar.indexCast v660
  ![27, v661.toNat]
def k0_off31 (i : grid0.Coords) (c0_i32_344 : BitVec 32) : Fin 2 → Nat :=
  let c28_345 : Index := 28#32
  let arg0 : BitVec 32 := BitVec.ofNat 32 (i 0).val
  let c2_i32_343 : BitVec 32 := 2#32
  let v683 : BitVec 32 := Scalar.muli arg0 c2_i32_343
  let v684 : BitVec 32 := Scalar.addi v683 c0_i32_344
  let v685 : Index := Scalar.indexCast v684
  ![28, v685.toNat]
def k0_off32 (i : grid0.Coords) (c0_i32_356 : BitVec 32) : Fin 2 → Nat :=
  let c29_357 : Index := 29#32
  let arg0 : BitVec 32 := BitVec.ofNat 32 (i 0).val
  let c2_i32_355 : BitVec 32 := 2#32
  let v707 : BitVec 32 := Scalar.muli arg0 c2_i32_355
  let v708 : BitVec 32 := Scalar.addi v707 c0_i32_356
  let v709 : Index := Scalar.indexCast v708
  ![29, v709.toNat]
def k0_off33 (i : grid0.Coords) (c0_i32_368 : BitVec 32) : Fin 2 → Nat :=
  let c30_369 : Index := 30#32
  let arg0 : BitVec 32 := BitVec.ofNat 32 (i 0).val
  let c2_i32_367 : BitVec 32 := 2#32
  let v731 : BitVec 32 := Scalar.muli arg0 c2_i32_367
  let v732 : BitVec 32 := Scalar.addi v731 c0_i32_368
  let v733 : Index := Scalar.indexCast v732
  ![30, v733.toNat]
def k0_off34 (i : grid0.Coords) (c0_i32_380 : BitVec 32) : Fin 2 → Nat :=
  let c31_381 : Index := 31#32
  let arg0 : BitVec 32 := BitVec.ofNat 32 (i 0).val
  let c2_i32_379 : BitVec 32 := 2#32
  let v755 : BitVec 32 := Scalar.muli arg0 c2_i32_379
  let v756 : BitVec 32 := Scalar.addi v755 c0_i32_380
  let v757 : Index := Scalar.indexCast v756
  ![31, v757.toNat]
def k0_off35 (i : grid0.Coords) (c0_i32_392 : BitVec 32) : Fin 2 → Nat :=
  let c32_393 : Index := 32#32
  let arg0 : BitVec 32 := BitVec.ofNat 32 (i 0).val
  let c2_i32_391 : BitVec 32 := 2#32
  let v779 : BitVec 32 := Scalar.muli arg0 c2_i32_391
  let v780 : BitVec 32 := Scalar.addi v779 c0_i32_392
  let v781 : Index := Scalar.indexCast v780
  ![32, v781.toNat]
def k0_off36 (i : grid0.Coords) (c0_i32_404 : BitVec 32) : Fin 2 → Nat :=
  let c33_405 : Index := 33#32
  let arg0 : BitVec 32 := BitVec.ofNat 32 (i 0).val
  let c2_i32_403 : BitVec 32 := 2#32
  let v803 : BitVec 32 := Scalar.muli arg0 c2_i32_403
  let v804 : BitVec 32 := Scalar.addi v803 c0_i32_404
  let v805 : Index := Scalar.indexCast v804
  ![33, v805.toNat]
def k0_off37 (i : grid0.Coords) (c0_i32_416 : BitVec 32) : Fin 2 → Nat :=
  let c34_417 : Index := 34#32
  let arg0 : BitVec 32 := BitVec.ofNat 32 (i 0).val
  let c2_i32_415 : BitVec 32 := 2#32
  let v827 : BitVec 32 := Scalar.muli arg0 c2_i32_415
  let v828 : BitVec 32 := Scalar.addi v827 c0_i32_416
  let v829 : Index := Scalar.indexCast v828
  ![34, v829.toNat]
def k0_off38 (i : grid0.Coords) (c0_i32_428 : BitVec 32) : Fin 2 → Nat :=
  let c35_429 : Index := 35#32
  let arg0 : BitVec 32 := BitVec.ofNat 32 (i 0).val
  let c2_i32_427 : BitVec 32 := 2#32
  let v851 : BitVec 32 := Scalar.muli arg0 c2_i32_427
  let v852 : BitVec 32 := Scalar.addi v851 c0_i32_428
  let v853 : Index := Scalar.indexCast v852
  ![35, v853.toNat]
def k0_off39 (i : grid0.Coords) (c0_i32_440 : BitVec 32) : Fin 2 → Nat :=
  let c36_441 : Index := 36#32
  let arg0 : BitVec 32 := BitVec.ofNat 32 (i 0).val
  let c2_i32_439 : BitVec 32 := 2#32
  let v875 : BitVec 32 := Scalar.muli arg0 c2_i32_439
  let v876 : BitVec 32 := Scalar.addi v875 c0_i32_440
  let v877 : Index := Scalar.indexCast v876
  ![36, v877.toNat]
def k0_off40 (i : grid0.Coords) (c0_i32_452 : BitVec 32) : Fin 2 → Nat :=
  let c37_453 : Index := 37#32
  let arg0 : BitVec 32 := BitVec.ofNat 32 (i 0).val
  let c2_i32_451 : BitVec 32 := 2#32
  let v899 : BitVec 32 := Scalar.muli arg0 c2_i32_451
  let v900 : BitVec 32 := Scalar.addi v899 c0_i32_452
  let v901 : Index := Scalar.indexCast v900
  ![37, v901.toNat]
def k0_off41 (i : grid0.Coords) (c0_i32_464 : BitVec 32) : Fin 2 → Nat :=
  let c38_465 : Index := 38#32
  let arg0 : BitVec 32 := BitVec.ofNat 32 (i 0).val
  let c2_i32_463 : BitVec 32 := 2#32
  let v923 : BitVec 32 := Scalar.muli arg0 c2_i32_463
  let v924 : BitVec 32 := Scalar.addi v923 c0_i32_464
  let v925 : Index := Scalar.indexCast v924
  ![38, v925.toNat]
def k0_off42 (i : grid0.Coords) (c0_i32_476 : BitVec 32) : Fin 2 → Nat :=
  let c39_477 : Index := 39#32
  let arg0 : BitVec 32 := BitVec.ofNat 32 (i 0).val
  let c2_i32_475 : BitVec 32 := 2#32
  let v947 : BitVec 32 := Scalar.muli arg0 c2_i32_475
  let v948 : BitVec 32 := Scalar.addi v947 c0_i32_476
  let v949 : Index := Scalar.indexCast v948
  ![39, v949.toNat]
def k0_off43 (i : grid0.Coords) (c0_i32_488 : BitVec 32) : Fin 2 → Nat :=
  let c40_489 : Index := 40#32
  let arg0 : BitVec 32 := BitVec.ofNat 32 (i 0).val
  let c2_i32_487 : BitVec 32 := 2#32
  let v971 : BitVec 32 := Scalar.muli arg0 c2_i32_487
  let v972 : BitVec 32 := Scalar.addi v971 c0_i32_488
  let v973 : Index := Scalar.indexCast v972
  ![40, v973.toNat]
def k0_off44 (i : grid0.Coords) (c0_i32_500 : BitVec 32) : Fin 2 → Nat :=
  let c41_501 : Index := 41#32
  let arg0 : BitVec 32 := BitVec.ofNat 32 (i 0).val
  let c2_i32_499 : BitVec 32 := 2#32
  let v995 : BitVec 32 := Scalar.muli arg0 c2_i32_499
  let v996 : BitVec 32 := Scalar.addi v995 c0_i32_500
  let v997 : Index := Scalar.indexCast v996
  ![41, v997.toNat]
def k0_off45 (i : grid0.Coords) (c0_i32_512 : BitVec 32) : Fin 2 → Nat :=
  let c42_513 : Index := 42#32
  let arg0 : BitVec 32 := BitVec.ofNat 32 (i 0).val
  let c2_i32_511 : BitVec 32 := 2#32
  let v1019 : BitVec 32 := Scalar.muli arg0 c2_i32_511
  let v1020 : BitVec 32 := Scalar.addi v1019 c0_i32_512
  let v1021 : Index := Scalar.indexCast v1020
  ![42, v1021.toNat]
def k0_off46 (i : grid0.Coords) (c0_i32_524 : BitVec 32) : Fin 2 → Nat :=
  let c43_525 : Index := 43#32
  let arg0 : BitVec 32 := BitVec.ofNat 32 (i 0).val
  let c2_i32_523 : BitVec 32 := 2#32
  let v1043 : BitVec 32 := Scalar.muli arg0 c2_i32_523
  let v1044 : BitVec 32 := Scalar.addi v1043 c0_i32_524
  let v1045 : Index := Scalar.indexCast v1044
  ![43, v1045.toNat]
def k0_off47 (i : grid0.Coords) (c0_i32_536 : BitVec 32) : Fin 2 → Nat :=
  let c44_537 : Index := 44#32
  let arg0 : BitVec 32 := BitVec.ofNat 32 (i 0).val
  let c2_i32_535 : BitVec 32 := 2#32
  let v1067 : BitVec 32 := Scalar.muli arg0 c2_i32_535
  let v1068 : BitVec 32 := Scalar.addi v1067 c0_i32_536
  let v1069 : Index := Scalar.indexCast v1068
  ![44, v1069.toNat]
def k0_off48 (i : grid0.Coords) (c0_i32_548 : BitVec 32) : Fin 2 → Nat :=
  let c45_549 : Index := 45#32
  let arg0 : BitVec 32 := BitVec.ofNat 32 (i 0).val
  let c2_i32_547 : BitVec 32 := 2#32
  let v1091 : BitVec 32 := Scalar.muli arg0 c2_i32_547
  let v1092 : BitVec 32 := Scalar.addi v1091 c0_i32_548
  let v1093 : Index := Scalar.indexCast v1092
  ![45, v1093.toNat]
def k0_off49 (i : grid0.Coords) (c0_i32_560 : BitVec 32) : Fin 2 → Nat :=
  let c46_561 : Index := 46#32
  let arg0 : BitVec 32 := BitVec.ofNat 32 (i 0).val
  let c2_i32_559 : BitVec 32 := 2#32
  let v1115 : BitVec 32 := Scalar.muli arg0 c2_i32_559
  let v1116 : BitVec 32 := Scalar.addi v1115 c0_i32_560
  let v1117 : Index := Scalar.indexCast v1116
  ![46, v1117.toNat]
def k0_off50 (i : grid0.Coords) (c0_i32_572 : BitVec 32) : Fin 2 → Nat :=
  let c47_573 : Index := 47#32
  let arg0 : BitVec 32 := BitVec.ofNat 32 (i 0).val
  let c2_i32_571 : BitVec 32 := 2#32
  let v1139 : BitVec 32 := Scalar.muli arg0 c2_i32_571
  let v1140 : BitVec 32 := Scalar.addi v1139 c0_i32_572
  let v1141 : Index := Scalar.indexCast v1140
  ![47, v1141.toNat]
def k0_off51 (i : grid0.Coords) (c0_i32_584 : BitVec 32) : Fin 2 → Nat :=
  let c48_585 : Index := 48#32
  let arg0 : BitVec 32 := BitVec.ofNat 32 (i 0).val
  let c2_i32_583 : BitVec 32 := 2#32
  let v1163 : BitVec 32 := Scalar.muli arg0 c2_i32_583
  let v1164 : BitVec 32 := Scalar.addi v1163 c0_i32_584
  let v1165 : Index := Scalar.indexCast v1164
  ![48, v1165.toNat]
def k0_off52 (i : grid0.Coords) (c0_i32_596 : BitVec 32) : Fin 2 → Nat :=
  let c49_597 : Index := 49#32
  let arg0 : BitVec 32 := BitVec.ofNat 32 (i 0).val
  let c2_i32_595 : BitVec 32 := 2#32
  let v1187 : BitVec 32 := Scalar.muli arg0 c2_i32_595
  let v1188 : BitVec 32 := Scalar.addi v1187 c0_i32_596
  let v1189 : Index := Scalar.indexCast v1188
  ![49, v1189.toNat]
def k0_off53 (i : grid0.Coords) (c0_i32_608 : BitVec 32) : Fin 2 → Nat :=
  let c50_609 : Index := 50#32
  let arg0 : BitVec 32 := BitVec.ofNat 32 (i 0).val
  let c2_i32_607 : BitVec 32 := 2#32
  let v1211 : BitVec 32 := Scalar.muli arg0 c2_i32_607
  let v1212 : BitVec 32 := Scalar.addi v1211 c0_i32_608
  let v1213 : Index := Scalar.indexCast v1212
  ![50, v1213.toNat]
def k0_off54 (i : grid0.Coords) (c0_i32_620 : BitVec 32) : Fin 2 → Nat :=
  let c51_621 : Index := 51#32
  let arg0 : BitVec 32 := BitVec.ofNat 32 (i 0).val
  let c2_i32_619 : BitVec 32 := 2#32
  let v1235 : BitVec 32 := Scalar.muli arg0 c2_i32_619
  let v1236 : BitVec 32 := Scalar.addi v1235 c0_i32_620
  let v1237 : Index := Scalar.indexCast v1236
  ![51, v1237.toNat]
def k0_off55 (i : grid0.Coords) (c0_i32_632 : BitVec 32) : Fin 2 → Nat :=
  let c52_633 : Index := 52#32
  let arg0 : BitVec 32 := BitVec.ofNat 32 (i 0).val
  let c2_i32_631 : BitVec 32 := 2#32
  let v1259 : BitVec 32 := Scalar.muli arg0 c2_i32_631
  let v1260 : BitVec 32 := Scalar.addi v1259 c0_i32_632
  let v1261 : Index := Scalar.indexCast v1260
  ![52, v1261.toNat]
def k0_off56 (i : grid0.Coords) (c0_i32_644 : BitVec 32) : Fin 2 → Nat :=
  let c53_645 : Index := 53#32
  let arg0 : BitVec 32 := BitVec.ofNat 32 (i 0).val
  let c2_i32_643 : BitVec 32 := 2#32
  let v1283 : BitVec 32 := Scalar.muli arg0 c2_i32_643
  let v1284 : BitVec 32 := Scalar.addi v1283 c0_i32_644
  let v1285 : Index := Scalar.indexCast v1284
  ![53, v1285.toNat]
def k0_off57 (i : grid0.Coords) (c0_i32_656 : BitVec 32) : Fin 2 → Nat :=
  let c54_657 : Index := 54#32
  let arg0 : BitVec 32 := BitVec.ofNat 32 (i 0).val
  let c2_i32_655 : BitVec 32 := 2#32
  let v1307 : BitVec 32 := Scalar.muli arg0 c2_i32_655
  let v1308 : BitVec 32 := Scalar.addi v1307 c0_i32_656
  let v1309 : Index := Scalar.indexCast v1308
  ![54, v1309.toNat]
def k0_off58 (i : grid0.Coords) (c0_i32_668 : BitVec 32) : Fin 2 → Nat :=
  let c55_669 : Index := 55#32
  let arg0 : BitVec 32 := BitVec.ofNat 32 (i 0).val
  let c2_i32_667 : BitVec 32 := 2#32
  let v1331 : BitVec 32 := Scalar.muli arg0 c2_i32_667
  let v1332 : BitVec 32 := Scalar.addi v1331 c0_i32_668
  let v1333 : Index := Scalar.indexCast v1332
  ![55, v1333.toNat]
def k0_off59 (i : grid0.Coords) (c0_i32_680 : BitVec 32) : Fin 2 → Nat :=
  let c56_681 : Index := 56#32
  let arg0 : BitVec 32 := BitVec.ofNat 32 (i 0).val
  let c2_i32_679 : BitVec 32 := 2#32
  let v1355 : BitVec 32 := Scalar.muli arg0 c2_i32_679
  let v1356 : BitVec 32 := Scalar.addi v1355 c0_i32_680
  let v1357 : Index := Scalar.indexCast v1356
  ![56, v1357.toNat]
def k0_off60 (i : grid0.Coords) (c0_i32_692 : BitVec 32) : Fin 2 → Nat :=
  let c57_693 : Index := 57#32
  let arg0 : BitVec 32 := BitVec.ofNat 32 (i 0).val
  let c2_i32_691 : BitVec 32 := 2#32
  let v1379 : BitVec 32 := Scalar.muli arg0 c2_i32_691
  let v1380 : BitVec 32 := Scalar.addi v1379 c0_i32_692
  let v1381 : Index := Scalar.indexCast v1380
  ![57, v1381.toNat]
def k0_off61 (i : grid0.Coords) (c0_i32_704 : BitVec 32) : Fin 2 → Nat :=
  let c58_705 : Index := 58#32
  let arg0 : BitVec 32 := BitVec.ofNat 32 (i 0).val
  let c2_i32_703 : BitVec 32 := 2#32
  let v1403 : BitVec 32 := Scalar.muli arg0 c2_i32_703
  let v1404 : BitVec 32 := Scalar.addi v1403 c0_i32_704
  let v1405 : Index := Scalar.indexCast v1404
  ![58, v1405.toNat]
def k0_off62 (i : grid0.Coords) (c0_i32_716 : BitVec 32) : Fin 2 → Nat :=
  let c59_717 : Index := 59#32
  let arg0 : BitVec 32 := BitVec.ofNat 32 (i 0).val
  let c2_i32_715 : BitVec 32 := 2#32
  let v1427 : BitVec 32 := Scalar.muli arg0 c2_i32_715
  let v1428 : BitVec 32 := Scalar.addi v1427 c0_i32_716
  let v1429 : Index := Scalar.indexCast v1428
  ![59, v1429.toNat]
def k0_off63 (i : grid0.Coords) (c0_i32_728 : BitVec 32) : Fin 2 → Nat :=
  let c60_729 : Index := 60#32
  let arg0 : BitVec 32 := BitVec.ofNat 32 (i 0).val
  let c2_i32_727 : BitVec 32 := 2#32
  let v1451 : BitVec 32 := Scalar.muli arg0 c2_i32_727
  let v1452 : BitVec 32 := Scalar.addi v1451 c0_i32_728
  let v1453 : Index := Scalar.indexCast v1452
  ![60, v1453.toNat]
def k0_off64 (i : grid0.Coords) (c0_i32_740 : BitVec 32) : Fin 2 → Nat :=
  let c61_741 : Index := 61#32
  let arg0 : BitVec 32 := BitVec.ofNat 32 (i 0).val
  let c2_i32_739 : BitVec 32 := 2#32
  let v1475 : BitVec 32 := Scalar.muli arg0 c2_i32_739
  let v1476 : BitVec 32 := Scalar.addi v1475 c0_i32_740
  let v1477 : Index := Scalar.indexCast v1476
  ![61, v1477.toNat]
def k0_off65 (i : grid0.Coords) (c0_i32_752 : BitVec 32) : Fin 2 → Nat :=
  let c62_753 : Index := 62#32
  let arg0 : BitVec 32 := BitVec.ofNat 32 (i 0).val
  let c2_i32_751 : BitVec 32 := 2#32
  let v1499 : BitVec 32 := Scalar.muli arg0 c2_i32_751
  let v1500 : BitVec 32 := Scalar.addi v1499 c0_i32_752
  let v1501 : Index := Scalar.indexCast v1500
  ![62, v1501.toNat]
def k0_off66 (i : grid0.Coords) (c0_i32_764 : BitVec 32) : Fin 2 → Nat :=
  let c63_765 : Index := 63#32
  let arg0 : BitVec 32 := BitVec.ofNat 32 (i 0).val
  let c2_i32_763 : BitVec 32 := 2#32
  let v1523 : BitVec 32 := Scalar.muli arg0 c2_i32_763
  let v1524 : BitVec 32 := Scalar.addi v1523 c0_i32_764
  let v1525 : Index := Scalar.indexCast v1524
  ![63, v1525.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S192x1x8192 : Shape := ⟨3, ![192, 1, 8192]⟩
abbrev S8192x16384 : Shape := ⟨2, ![8192, 16384]⟩
abbrev S64x128 : Shape := ⟨2, ![64, 128]⟩
abbrev S192x64x128 : Shape := ⟨3, ![192, 64, 128]⟩
abbrev S_ : Shape := ⟨0, ![]⟩
abbrev S192x64 : Shape := ⟨2, ![192, 64]⟩
abbrev S64x192 : Shape := ⟨2, ![64, 192]⟩
abbrev S64x192x1x1 : Shape := ⟨4, ![64, 192, 1, 1]⟩
abbrev S64x1x128x1 : Shape := ⟨4, ![64, 1, 128, 1]⟩
abbrev S64x192x128x1 : Shape := ⟨4, ![64, 192, 128, 1]⟩
abbrev S64x192x128x128 : Shape := ⟨4, ![64, 192, 128, 128]⟩
abbrev S64x192x16384 : Shape := ⟨3, ![64, 192, 16384]⟩
abbrev S192x64x1 : Shape := ⟨3, ![192, 64, 1]⟩
abbrev S64x128x16384 : Shape := ⟨3, ![64, 128, 16384]⟩
abbrev S192x16384 : Shape := ⟨2, ![192, 16384]⟩
abbrev S192x8192 : Shape := ⟨2, ![192, 8192]⟩

abbrev nBuf : Space → Nat
  | .hbm => 83
  | .vmem => 6
  | .smem => 0
  | _ => 0

abbrev bufTy : (tb : Table) → Fin (tcTables nBuf tb) → BufTy
  | .hbm, ⟨0, _⟩ => ⟨S192x1x8192, .bf16⟩
  | .hbm, ⟨1, _⟩ => ⟨S8192x16384, .fp8e4m3⟩
  | .hbm, ⟨2, _⟩ => ⟨S64x128, .f32⟩
  | .hbm, ⟨3, _⟩ => ⟨S192x1x8192, .f32⟩
  | .hbm, ⟨4, _⟩ => ⟨S192x64x128, .f32⟩
  | .hbm, ⟨5, _⟩ => ⟨S192x64x128, .f32⟩
  | .hbm, ⟨6, _⟩ => ⟨S_, .f32⟩
  | .hbm, ⟨7, _⟩ => ⟨S192x64, .f32⟩
  | .hbm, ⟨8, _⟩ => ⟨S_, .f32⟩
  | .hbm, ⟨9, _⟩ => ⟨S192x64, .f32⟩
  | .hbm, ⟨10, _⟩ => ⟨S192x64, .f32⟩
  | .hbm, ⟨11, _⟩ => ⟨S192x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S192x64, .f32⟩
  | .hbm, ⟨16, _⟩ => ⟨S192x64, .f32⟩
  | .hbm, ⟨17, _⟩ => ⟨S192x64, .f32⟩
  | .hbm, ⟨18, _⟩ => ⟨S_, .f32⟩
  | .hbm, ⟨19, _⟩ => ⟨S192x64, .f32⟩
  | .hbm, ⟨20, _⟩ => ⟨S192x64, .f32⟩
  | .hbm, ⟨21, _⟩ => ⟨S_, .f32⟩
  | .hbm, ⟨22, _⟩ => ⟨S192x64, .f32⟩
  | .hbm, ⟨23, _⟩ => ⟨S192x64, .i1⟩
  | .hbm, ⟨24, _⟩ => ⟨S_, .f32⟩
  | .hbm, ⟨25, _⟩ => ⟨S192x64, .f32⟩
  | .hbm, ⟨26, _⟩ => ⟨S192x64, .i1⟩
  | .hbm, ⟨27, _⟩ => ⟨S192x64, .i1⟩
  | .hbm, ⟨28, _⟩ => ⟨S_, .f32⟩
  | .hbm, ⟨29, _⟩ => ⟨S192x64, .f32⟩
  | .hbm, ⟨30, _⟩ => ⟨S192x64, .i1⟩
  | .hbm, ⟨31, _⟩ => ⟨S192x64, .i1⟩
  | .hbm, ⟨32, _⟩ => ⟨S_, .f32⟩
  | .hbm, ⟨33, _⟩ => ⟨S_, .f32⟩
  | .hbm, ⟨34, _⟩ => ⟨S192x64, .f32⟩
  | .hbm, ⟨35, _⟩ => ⟨S192x64, .f32⟩
  | .hbm, ⟨36, _⟩ => ⟨S_, .f32⟩
  | .hbm, ⟨37, _⟩ => ⟨S192x64, .f32⟩
  | .hbm, ⟨38, _⟩ => ⟨S192x64, .i1⟩
  | .hbm, ⟨39, _⟩ => ⟨S_, .f32⟩
  | .hbm, ⟨40, _⟩ => ⟨S192x64, .f32⟩
  | .hbm, ⟨41, _⟩ => ⟨S192x64, .i1⟩
  | .hbm, ⟨42, _⟩ => ⟨S_, .f32⟩
  | .hbm, ⟨43, _⟩ => ⟨S192x64, .f32⟩
  | .hbm, ⟨44, _⟩ => ⟨S192x64, .f32⟩
  | .hbm, ⟨45, _⟩ => ⟨S_, .f32⟩
  | .hbm, ⟨46, _⟩ => ⟨S_, .f32⟩
  | .hbm, ⟨47, _⟩ => ⟨S192x64, .f32⟩
  | .hbm, ⟨48, _⟩ => ⟨S192x64, .f32⟩
  | .hbm, ⟨49, _⟩ => ⟨S_, .f32⟩
  | .hbm, ⟨50, _⟩ => ⟨S_, .f32⟩
  | .hbm, ⟨51, _⟩ => ⟨S192x64, .f32⟩
  | .hbm, ⟨52, _⟩ => ⟨S192x64, .f32⟩
  | .hbm, ⟨53, _⟩ => ⟨S192x64, .f32⟩
  | .hbm, ⟨54, _⟩ => ⟨S_, .f32⟩
  | .hbm, ⟨55, _⟩ => ⟨S192x64, .f32⟩
  | .hbm, ⟨56, _⟩ => ⟨S192x64, .i1⟩
  | .hbm, ⟨57, _⟩ => ⟨S_, .f32⟩
  | .hbm, ⟨58, _⟩ => ⟨S192x64, .f32⟩
  | .hbm, ⟨59, _⟩ => ⟨S192x64, .i1⟩
  | .hbm, ⟨60, _⟩ => ⟨S_, .f32⟩
  | .hbm, ⟨61, _⟩ => ⟨S192x64, .f32⟩
  | .hbm, ⟨62, _⟩ => ⟨S192x64, .f32⟩
  | .hbm, ⟨63, _⟩ => ⟨S_, .f32⟩
  | .hbm, ⟨64, _⟩ => ⟨S_, .f32⟩
  | .hbm, ⟨65, _⟩ => ⟨S192x64, .f32⟩
  | .hbm, ⟨66, _⟩ => ⟨S192x64, .f32⟩
  | .hbm, ⟨67, _⟩ => ⟨S_, .f32⟩
  | .hbm, ⟨68, _⟩ => ⟨S_, .f32⟩
  | .hbm, ⟨69, _⟩ => ⟨S192x64, .f32⟩
  | .hbm, ⟨70, _⟩ => ⟨S192x64, .f32⟩
  | .hbm, ⟨71, _⟩ => ⟨S64x192, .f32⟩
  | .hbm, ⟨72, _⟩ => ⟨S64x192x1x1, .f32⟩
  | .hbm, ⟨73, _⟩ => ⟨S64x1x128x1, .f32⟩
  | .hbm, ⟨74, _⟩ => ⟨S64x192x128x1, .f32⟩
  | .hbm, ⟨75, _⟩ => ⟨S64x192x128x1, .f32⟩
  | .hbm, ⟨76, _⟩ => ⟨S64x192x128x1, .f32⟩
  | .hbm, ⟨77, _⟩ => ⟨S64x192x128x128, .f32⟩
  | .hbm, ⟨78, _⟩ => ⟨S64x192x16384, .f32⟩
  | .hbm, ⟨79, _⟩ => ⟨S192x64x1, .f32⟩
  | .hbm, ⟨80, _⟩ => ⟨S64x128x16384, .fp8e4m3⟩
  | .hbm, ⟨81, _⟩ => ⟨S192x16384, .bf16⟩
  | .hbm, ⟨82, _⟩ => ⟨S192x8192, .fp8e4m3⟩
  | .local _ .vmem, ⟨0, _⟩ => ⟨S192x64x128, .f32⟩
  | .local _ .vmem, ⟨1, _⟩ => ⟨S192x64x1, .f32⟩
  | .local _ .vmem, ⟨2, _⟩ => ⟨S64x128x16384, .fp8e4m3⟩
  | .local _ .vmem, ⟨3, _⟩ => ⟨S64x192x16384, .f32⟩
  | .local _ .vmem, ⟨4, _⟩ => ⟨S192x16384, .bf16⟩
  | .local _ .vmem, ⟨5, _⟩ => ⟨S192x8192, .fp8e4m3⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_cst_11 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_cst_12 : Ref sig .tc := ⟨.hbm, 54, rfl⟩
abbrev main_v32 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_cst_14 : Ref sig .tc := ⟨.hbm, 60, rfl⟩
abbrev main_v36 : Ref sig .tc := ⟨.hbm, 61, rfl⟩
abbrev main_v37 : Ref sig .tc := ⟨.hbm, 62, rfl⟩
abbrev main_cst_15 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_16 : Ref sig .tc := ⟨.hbm, 67, rfl⟩
abbrev main_call4_v0 : Ref sig .tc := ⟨.hbm, 68, rfl⟩
abbrev main_call4_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x192x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Exec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3268000 in
/-- The body at a point after the first: it reads the weights, the weight scales, the codes and the scale rows, and stores the output block. -/
def runB (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : ¬ k0_cond1 i = 1#1)
    (f2 : BufTy.Contents (Elt F) arg2.view.ty) (f3 : BufTy.Contents (Elt F) arg3.view.ty) (f5 : BufTy.Contents (Elt F) arg5.view.ty) (f7 : BufTy.Contents (Elt F) arg7.view.ty) :
    { L4 : List (View.Piece (Elt F) S192x256 .bf16) //
      ∀ (E : Set ℕ) (f4 : BufTy.Contents (Elt F) arg4.view.ty) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} (arg4.view.writes (Elt F) f4 L4)) ∗ (arg5.view.loc (c : Thread nD τ) ↦[arg5.view.set]{fullShare} f5) ∗ (arg7.view.loc (c : Thread nD τ) ↦[arg7.view.set]{fullShare} f7)) -∗ K ⟨⟩))
          ⊢ wp frame (wpE (defs₀ (F := F)) Variants.none c none) E (cc0__linear_kernel i arg1 harg1 arg2 harg2 arg3 harg3 arg4 harg4 arg5 harg5 arg6 harg6 arg7 harg7) K } := by
  refine ⟨?_, fun E f4 K => ?run⟩
  case run =>
    simp only [cc0__linear_kernel_eq_skeleton]; unfold cc0__linear_kernel_skel
    simp only [k0_part44_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton,
      k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton,
      k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    iintro ⟨H2, H3, H4, H5, H7, Hk⟩
    sl_exec (disch := first | sl_exact hc0)
    sl_step
    iapply Hk
    sl_close

set_option maxHeartbeats 3268000 in
/-- The body at the first point: it quantises the activations into the codes, the scale rows and the scales, and then stores the output block. -/
def runA (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : k0_cond1 i = 1#1)
    (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    Σ' (L4 : List (View.Piece (Elt F) S192x256 .bf16)), Σ' (L5 : List (View.Piece (Elt F) S192x8192 .fp8e4m3)), Σ' (L6 : List (View.Piece (Elt F) S192x64 .f32)), { L7 : List (View.Piece (Elt F) S64x192x128 .f32) //
      ∀ (E : Set ℕ) (f4 : BufTy.Contents (Elt F) arg4.view.ty) (f6 : BufTy.Contents (Elt F) arg6.view.ty) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} (arg4.view.writes (Elt F) f4 L4)) ∗ (arg5.view.loc (c : Thread nD τ) ↦[arg5.view.set]{fullShare} (arg5.view.writes (Elt F) f5 L5)) ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7))) -∗ K ⟨⟩))
          ⊢ wp frame (wpE (defs₀ (F := F)) Variants.none c none) E (cc0__linear_kernel i arg1 harg1 arg2 harg2 arg3 harg3 arg4 harg4 arg5 harg5 arg6 harg6 arg7 harg7) K } := by
  refine ⟨?_, ?_, ?_, ?_, fun E f4 f6 K => ?run⟩
  case run =>
    simp only [cc0__linear_kernel_eq_skeleton]; unfold cc0__linear_kernel_skel
    simp only [k0_part44_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton,
      k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton,
      k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    iintro ⟨H1, H2, H3, H4, H5, H6, H7, Hk⟩
    sl_exec (disch := first | sl_exact hc0)
    sl_step
    iapply Hk
    sl_close

end Cert.KernelIdeal.Hand

end
-- ==== Proof.Block.lean ====
module

public import proofs.«01_k».proof.Proof.Body
public import Idealize.ShloMosaic.Lib.Pointwise.Index
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe

variable {F : FTy → Type} [FloatOps F]

/-- Where the scalar of group `g` and column half `b` of grid point `i` lies in the weight scales. -/
def swOff (i : grid0.Coords) (g : Fin 64) (b : BitVec 32) : Fin 2 → ℕ :=
  ![g.val, (Scalar.indexCast (Scalar.addi (Scalar.muli (BitVec.ofNat 32 (i 0).val) 2#32) b)).toNat]

theorem swOff_eq : ∀ (i : grid0.Coords) (g : Fin 64) (b : Fin 2), swOff i g (BitVec.ofNat 32 b.val) = ![g.val, 2 * (i 0).val + b.val] := by
  intro i g b
  unfold swOff
  have h := congrFun (k0_off3_eq i b) 1
  unfold k0_off3 at h
  refine funext fun a => ?_
  match a with
  | 0 => rfl
  | 1 => exact h

theorem swOff_inb (i : grid0.Coords) (g : Fin 64) (b : Fin 2) :
    ∀ a, swOff i g (BitVec.ofNat 32 b.val) a + S1x1.size a ≤ S64x128.size a := by
  rw [swOff_eq]
  have hi : (i 0).val < 64 := (i 0).isLt
  have hg := g.isLt
  have hb := b.isLt
  intro a
  match a with
  | 0 => show g.val + 1 ≤ 64; omega
  | 1 => show 2 * (i 0).val + b.val + 1 ≤ 128; omega

theorem codeRect_inb (g : Fin 64) : ∀ a, (![0, 128 * g.val] : Fin 2 → ℕ) a + S192x128.size a ≤ S192x8192.size a := by
  have hg := g.isLt
  intro a
  match a with
  | 0 => exact Nat.le_refl 192
  | 1 => show 128 * g.val + 128 ≤ 8192; omega

theorem weightRect_inb (g : Fin 64) : ∀ a, (![128 * g.val, 0] : Fin 2 → ℕ) a + S128x256.size a ≤ S8192x256.size a := by
  have hg := g.isLt
  intro a
  match a with
  | 0 => show 128 * g.val + 128 ≤ 8192; omega
  | 1 => exact Nat.le_refl 256

theorem rowRect_inb (g : Fin 64) : ∀ a, (![g.val, 0, 0] : Fin 3 → ℕ) a + S1x192x128.size a ≤ S64x192x128.size a := by
  have hg := g.isLt
  intro a
  match a with
  | 0 => show g.val + 1 ≤ 64; omega
  | 1 => exact Nat.le_refl 192
  | 2 => exact Nat.le_refl 128

/-- The codes of group `g`. -/
def codeGroup (C : Vec F S192x8192 .fp8e4m3) (g : Fin 64) : Vec F S192x128 .fp8e4m3 :=
  View.ld C (Rect.unit (s := S192x8192) ![0, 128 * g.val] S192x128.size (codeRect_inb g))

/-- The weight rows of group `g`. -/
def weightGroup (W : Vec F S8192x256 .fp8e4m3) (g : Fin 64) : Vec F S128x256 .fp8e4m3 :=
  View.ld W (Rect.unit (s := S8192x256) ![128 * g.val, 0] S128x256.size (weightRect_inb g))

/-- The scale rows of group `g`. -/
def rowGroup (S : Vec F S64x192x128 .f32) (g : Fin 64) : Vec F S1x192x128 .f32 :=
  View.ld S (Rect.unit (s := S64x192x128) ![g.val, 0, 0] S1x192x128.size (rowRect_inb g))

/-- The weight scale of group `g` and column half `b`. -/
def weightScale (sw : Vec F S64x128 .f32) (i : grid0.Coords) (g : Fin 64) (b : Fin 2) : Elt F .f32 :=
  View.ld sw (Rect.unit (s := S64x128) (swOff i g (BitVec.ofNat 32 b.val)) S1x1.size (swOff_inb i g b)) (Shape.Idx.first (s := S1x1) (by decide))

/-- The product of group `g`'s codes and weights. -/
def partialDot (C : Vec F S192x8192 .fp8e4m3) (W : Vec F S8192x256 .fp8e4m3) (g : Fin 64) : FVec F S192x256 .f32 :=
  matmul (φ₁ := .fp8e4m3) (φ₂ := .fp8e4m3) dot_S192x128_S128x256_S192x256_1_0_0_1_n_n none (shapeCast S192x128 (codeGroup C g) shapeCasts_S192x128_S192x128)
    (weightGroup W g) (constant S192x256 .f32 0x00000000#32)

/-- One step of the accumulation in column half `b`: `off` is where the half starts. -/
def accStep (C : Vec F S192x8192 .fp8e4m3) (W : Vec F S8192x256 .fp8e4m3) (sw : Vec F S64x128 .f32) (S : Vec F S64x192x128 .f32)
    (i : grid0.Coords) (b : Fin 2) (off : Fin 2 → ℕ) (hoff : S192x256.Slices off S192x128) (g : Fin 64) (acc : FVec F S192x128 .f32) : FVec F S192x128 .f32 :=
  addf acc (mulf (extractStridedSlice S192x128 off (partialDot C W g) hoff)
    (mulf (shapeCast S192x128 (rowGroup S g) shapeCasts_S1x192x128_S192x128) (broadcast S192x128 (weightScale sw i g b))))

/-- The accumulator of column half `b` after the first `n` groups. -/
def acc (C : Vec F S192x8192 .fp8e4m3) (W : Vec F S8192x256 .fp8e4m3) (sw : Vec F S64x128 .f32) (S : Vec F S64x192x128 .f32)
    (i : grid0.Coords) (b : Fin 2) (off : Fin 2 → ℕ) (hoff : S192x256.Slices off S192x128) : (n : ℕ) → n ≤ 64 → FVec F S192x128 .f32
  | 0, _ => broadcast S192x128 (Scalar.ofBits .f32 0x00000000#32)
  | n + 1, h => accStep C W sw S i b off hoff ⟨n, h⟩ (acc C W sw S i b off hoff n (Nat.le_of_succ_le h))

/-- The stores into the output block, last first. -/
def outPieces (C : Vec F S192x8192 .fp8e4m3) (W : Vec F S8192x256 .fp8e4m3) (sw : Vec F S64x128 .f32) (S : Vec F S64x192x128 .f32)
    (i : grid0.Coords) : List (View.Piece (Elt F) S192x256 .bf16) :=
  [⟨Rect.unit ![0, 128] ![192, 128] inb_S192x256_S192x128_0_128,
      truncf .bf16 (acc C W sw S i 1 ![0, 128] slices_S192x256_o0_128_S192x128 64 le_rfl) bitsLt_bf16_f32⟩,
    ⟨Rect.unit ![0, 0] ![192, 128] inb_S192x256_S192x128_0_0,
      truncf .bf16 (acc C W sw S i 0 ![0, 0] slices_S192x256_o0_0_S192x128 64 le_rfl) bitsLt_bf16_f32⟩]

set_option maxHeartbeats 4000000 in
theorem runB_pieces (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : ¬ k0_cond1 i = 1#1)
    (f2 : BufTy.Contents (Elt F) arg2.view.ty) (f3 : BufTy.Contents (Elt F) arg3.view.ty) (f5 : BufTy.Contents (Elt F) arg5.view.ty) (f7 : BufTy.Contents (Elt F) arg7.view.ty) :
    (runB c i arg1 harg1 arg2 harg2 arg3 harg3 arg4 harg4 arg5 harg5 arg6 harg6 arg7 harg7 hc0 f2 f3 f5 f7).1
      = outPieces (arg5.view.read (Elt F) f5) (arg2.view.read (Elt F) f2) (arg3.view.read (Elt F) f3) (arg7.view.read (Elt F) f7) i := by
  rfl

end Cert.KernelIdeal.Hand

end
-- ==== Proof.Quant.lean ====
module

public import proofs.«01_k».proof.Proof.Block
public import Idealize.ShloMosaic.Lib.Writes

@[expose] public section

set_option maxRecDepth 16384

noncomputable section

namespace Cert.KernelIdeal.Hand

open Cert.KernelIdeal.Gen
open Idealize.ShloMosaic Idealize.ShloMosaic.TcCoe

variable {F : FTy → Type} [FloatOps F]

/-- The activations of group `g`: 128 columns. -/
def cols (X : Vec F S192x8192 .bf16) (g : Fin 64) : Vec F S192x128 .bf16 :=
  View.ld X (Rect.unit (s := S192x8192) ![0, 128 * g.val] S192x128.size (codeRect_inb g))

/-- The scale of every row of one group. -/
def groupScale (x : Vec F S192x128 .bf16) : FVec F S192x1 .f32 :=
  k0_pay12 (k0_pay4 x) (k0_pay8 (k0_pay5 x) (k0_pay6 x) (k0_pay7 x)) (k0_pay9 (k0_pay5 x) (k0_pay6 x) (k0_pay7 x))
    (k0_pay10 (k0_pay5 x) (k0_pay6 x) (k0_pay7 x))

/-- The codes of one group. -/
def groupCodes (x : Vec F S192x128 .bf16) : FVec F S192x128 .fp8e4m3 :=
  k0_pay15 (k0_pay13 (k0_pay3 x) (k0_pay4 x) (k0_pay8 (k0_pay5 x) (k0_pay6 x) (k0_pay7 x)) (k0_pay9 (k0_pay5 x) (k0_pay6 x) (k0_pay7 x))
    (k0_pay10 (k0_pay5 x) (k0_pay6 x) (k0_pay7 x)))

/-- The codes of all the activations: each column's are its group's. -/
def allCodes (X : Vec F S192x8192 .bf16) : Vec F S192x8192 .fp8e4m3 := fun j =>
  groupCodes (cols X ⟨(j 1).val / 128, by have h : (j 1).val < 8192 := (j 1).isLt; omega⟩)
    (ix2 (n0 := 192) (n1 := 128) (j 0) ⟨(j 1).val % 128, Nat.mod_lt _ (by decide)⟩)

/-- The scale rows: each group's scales along the lanes. -/
def allRows (X : Vec F S192x8192 .bf16) : Vec F S64x192x128 .f32 := fun j =>
  k0_pay17 (groupScale (cols X (j 0))) (ix3 (n0 := 1) (n1 := 192) (n2 := 128) 0 (j 1) (j 2))

/-- The scales packed one group per lane, after the first `n` groups. -/
def packed (X : Vec F S192x8192 .bf16) : (n : ℕ) → n ≤ 64 → FVec F S192x128 .f32
  | 0, _ => k0_pay14
  | n + 1, h => k0_pay18 (packed X n (Nat.le_of_succ_le h)) (Scf.iv 0#32 1#32 n) (groupScale (cols X ⟨n, h⟩))

/-- The codes at row `t` and lane `l` of group `g`. -/
theorem allCodes_at (X : Vec F S192x8192 .bf16) (j : S192x8192.Idx) (g : Fin 64) (t : Fin 192) (l : Fin 128)
    (h0 : (j 0).val = t.val) (h1 : (j 1).val = 128 * g.val + l.val) :
    allCodes X j = groupCodes (cols X g) (ix2 t l) := by
  have hl := l.isLt
  have e1 : (⟨(j 1).val / 128, by have h : (j 1).val < 8192 := (j 1).isLt; omega⟩ : Fin 64) = g := Fin.ext (by show (j 1).val / 128 = g.val; omega)
  have e2 : (⟨(j 1).val % 128, Nat.mod_lt _ (by decide)⟩ : Fin 128) = l := Fin.ext (by show (j 1).val % 128 = l.val; omega)
  have e3 : (j 0 : Fin 192) = t := Fin.ext h0
  unfold allCodes
  rw [e1, e2, e3]

/-- The scale rows at group `g`, row `t` and lane `l`. -/
theorem allRows_at (X : Vec F S192x8192 .bf16) (j : S64x192x128.Idx) (g : Fin 64) (t : Fin 192) (l : Fin 128)
    (h0 : (j 0).val = g.val) (h1 : (j 1).val = t.val) (h2 : (j 2).val = l.val) :
    allRows X j = k0_pay17 (groupScale (cols X g)) (ix3 (n0 := 1) (n1 := 192) (n2 := 128) 0 t l) := by
  have e1 : (j 0 : Fin 64) = g := Fin.ext h0
  have e2 : (j 1 : Fin 192) = t := Fin.ext h1
  have e3 : (j 2 : Fin 128) = l := Fin.ext h2
  unfold allRows
  rw [e1, e2, e3]

/-- A group's codes are those of its columns. -/
theorem codes_piece (X : Vec F S192x8192 .bf16) (off : Fin 2 → ℕ) (g : Fin 64) (ho : off = ![0, 128 * g.val])
    (h : ∀ a, off a + S192x128.size a ≤ S192x8192.size a) (x : S192x128.Idx) :
    groupCodes (cols X g) x = allCodes X ((Rect.unit (s := S192x8192) off S192x128.size h).emb x) := by
  subst ho
  refine Eq.trans (congrArg _ (eq_ix2 (n0 := 192) (n1 := 128) x)) (allCodes_at X _ g (x 0) (x 1) ?_ ?_).symm
  · show 0 + 1 * (x 0).val = (x 0).val
    omega
  · show 128 * g.val + 1 * (x 1).val = 128 * g.val + (x 1).val
    omega

theorem codes_cover (off : Fin 2 → ℕ) (n : ℕ) (ho : off = ![0, 128 * n])
    (h : ∀ a, off a + S192x128.size a ≤ S192x8192.size a) (y : S192x8192.Idx) (h1 : 128 * n ≤ (y 1).val) (h2 : (y 1).val < 128 * n + 128) :
    y ∈ (Rect.unit (s := S192x8192) off S192x128.size h).set := by
  subst ho
  refine Rect.mem_set_unit.mpr fun a => ?_
  match a with
  | 0 => exact ⟨Nat.zero_le _, (y 0).isLt.trans_eq (Nat.zero_add 192).symm⟩
  | 1 => exact ⟨h1, h2⟩

theorem rows_piece (X : Vec F S192x8192 .bf16) (off : Fin 3 → ℕ) (g : Fin 64) (ho : off = ![g.val, 0, 0])
    (h : ∀ a, off a + S1x192x128.size a ≤ S64x192x128.size a) (x : S1x192x128.Idx) :
    k0_pay17 (groupScale (cols X g)) x = allRows X ((Rect.unit (s := S64x192x128) off S1x192x128.size h).emb x) := by
  subst ho
  have x0 : (x 0).val < 1 := (x 0).isLt
  have e0 : (x 0 : Fin 1) = (0 : Fin 1) := Subsingleton.elim (α := Fin 1) _ _
  have ex : x = ix3 (n0 := 1) (n1 := 192) (n2 := 128) 0 (x 1) (x 2) :=
    (eq_ix3 (n0 := 1) (n1 := 192) (n2 := 128) x).trans (congrArg (fun z => ix3 (n0 := 1) (n1 := 192) (n2 := 128) z (x 1) (x 2)) e0)
  refine Eq.trans (congrArg _ ex) (allRows_at X _ g (x 1) (x 2) ?_ ?_ ?_).symm
  · show g.val + 1 * (x 0).val = g.val
    omega
  · show 0 + 1 * (x 1).val = (x 1).val
    omega
  · show 0 + 1 * (x 2).val = (x 2).val
    omega

theorem rows_cover (off : Fin 3 → ℕ) (n : ℕ) (ho : off = ![n, 0, 0])
    (h : ∀ a, off a + S1x192x128.size a ≤ S64x192x128.size a) (y : S64x192x128.Idx) (h1 : (y 0).val = n) :
    y ∈ (Rect.unit (s := S64x192x128) off S1x192x128.size h).set := by
  subst ho
  refine Rect.mem_set_unit.mpr fun a => ?_
  match a with
  | 0 => exact ⟨h1.ge, by show (y 0).val < n + 1; omega⟩
  | 1 => exact ⟨Nat.zero_le _, (y 1).isLt.trans_eq (Nat.zero_add 192).symm⟩
  | 2 => exact ⟨Nat.zero_le _, (y 2).isLt.trans_eq (Nat.zero_add 128).symm⟩

theorem k0_trips : k0_t1_loop.trips = 64 := by decide +kernel

section

variable (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : k0_cond1 i = 1#1)
  (f1 : BufTy.Contents (Elt F) arg1.view.ty)

/-- The loop's state before trip `n`. -/
abbrev loopState (n : ℕ) := st_k0_t1 Variants.none c none i arg1 harg1 arg2 harg2 arg3 harg3 arg4 harg4 arg5 harg5 arg6 harg6 arg7 harg7 hc0 f1 (k0_pay14 (F := F)) n

/-- The group a trip loads. -/
theorem trip_cols (k : Fin k0_t1_loop.trips) (g : Fin 64) (hg : g.val = k.val) :
    View.readAt (Elt F) arg1.view (Rect.unit (s := S192x8192) (k0_off1 k) S192x128.size (k0_off1_inb i k hc0)).toLoadRect f1
      = cols (arg1.view.read (Elt F) f1) g := by
  have hk : k.val < 64 := hg ▸ g.isLt
  have e : g = ⟨k.val, hk⟩ := Fin.ext hg
  rw [e]
  exact View.readAt_unit_congr arg1.view (k0_off1_eq k) _ (codeRect_inb ⟨k.val, hk⟩) f1

theorem trip_result (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).1 acc
      = k0_pay18 acc (Scf.iv 0#32 1#32 k.val) (groupScale (cols (arg1.view.read (Elt F) f1) g)) := by
  rw [← trip_cols i arg1 hc0 f1 k g hg]
  unfold trip_k0_t1
  rfl

theorem trip_codes (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).2.1 acc
      = [⟨Rect.unit (k0_off1 k) ![192, 128] (k0_off1_inb i k hc0), groupCodes (cols (arg1.view.read (Elt F) f1) g)⟩] := by
  rw [← trip_cols i arg1 hc0 f1 k g hg]
  unfold trip_k0_t1
  rfl

theorem trip_rows (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).2.2.1 acc
      = [⟨Rect.unit (k0_off2 k) ![1, 192, 128] (k0_off2_inb i k hc0), k0_pay17 (groupScale (cols (arg1.view.read (Elt F) f1) g))⟩] := by
  rw [← trip_cols i arg1 hc0 f1 k g hg]
  unfold trip_k0_t1
  rfl

/-- Before trip `n` the loop carries the scales of the first `n` groups, its stores into the codes are their codes and
    cover their columns, and its stores into the scale rows are their rows and cover them. -/
theorem loopState_spec (n : ℕ) (hn : n ≤ 64) :
    (loopState c i arg1 harg1 arg2 harg2 arg3 harg3 arg4 harg4 arg5 harg5 arg6 harg6 arg7 harg7 hc0 f1 n).1 = packed (arg1.view.read (Elt F) f1) n hn
    ∧ (∀ p ∈ (loopState c i arg1 harg1 arg2 harg2 arg3 harg3 arg4 harg4 arg5 harg5 arg6 harg6 arg7 harg7 hc0 f1 n).2.1, ∀ x : p.1.shape.Idx, p.2 x = allCodes (arg1.view.read (Elt F) f1) (p.1.emb x))
    ∧ (∀ y : S192x8192.Idx, (y 1).val < 128 * n → ∃ p ∈ (loopState c i arg1 harg1 arg2 harg2 arg3 harg3 arg4 harg4 arg5 harg5 arg6 harg6 arg7 harg7 hc0 f1 n).2.1, y ∈ p.1.set)
    ∧ (∀ p ∈ (loopState c i arg1 harg1 arg2 harg2 arg3 harg3 arg4 harg4 arg5 harg5 arg6 harg6 arg7 harg7 hc0 f1 n).2.2, ∀ x : p.1.shape.Idx, p.2 x = allRows (arg1.view.read (Elt F) f1) (p.1.emb x))
    ∧ (∀ y : S64x192x128.Idx, (y 0).val < n → ∃ p ∈ (loopState c i arg1 harg1 arg2 harg2 arg3 harg3 arg4 harg4 arg5 harg5 arg6 harg6 arg7 harg7 hc0 f1 n).2.2, y ∈ p.1.set) := by
  induction n with
  | zero =>
    refine ⟨rfl, ?_, ?_, ?_, ?_⟩
    · intro p hp; exact absurd hp List.not_mem_nil
    · intro y hy; omega
    · intro p hp; exact absurd hp List.not_mem_nil
    · intro y hy; omega
  | succ n ih =>
    obtain ⟨h1, h2, h3, h4, h5⟩ := ih (Nat.le_of_succ_le hn)
    have hk : n < k0_t1_loop.trips := by rw [k0_trips]; exact hn
    have e := st_k0_t1_succ Variants.none c none i arg1 harg1 arg2 harg2 arg3 harg3 arg4 harg4 arg5 harg5 arg6 harg6 arg7 harg7 hc0 f1 (k0_pay14 (F := F)) ⟨n, hk⟩
    simp only [trip_result c i arg1 harg1 arg2 harg2 arg3 harg3 arg4 harg4 arg5 harg5 arg6 harg6 arg7 harg7 hc0 f1 ⟨n, hk⟩ ⟨n, hn⟩ rfl, trip_codes c i arg1 harg1 arg2 harg2 arg3 harg3 arg4 harg4 arg5 harg5 arg6 harg6 arg7 harg7 hc0 f1 ⟨n, hk⟩ ⟨n, hn⟩ rfl,
      trip_rows c i arg1 harg1 arg2 harg2 arg3 harg3 arg4 harg4 arg5 harg5 arg6 harg6 arg7 harg7 hc0 f1 ⟨n, hk⟩ ⟨n, hn⟩ rfl] at e
    unfold loopState at h1 h2 h3 h4 h5 ⊢
    rw [e]
    refine ⟨?_, ?_, ?_, ?_, ?_⟩
    · rw [h1]; rfl
    · intro p hp
      rcases List.mem_cons.mp hp with rfl | hp
      · exact codes_piece _ _ ⟨n, hn⟩ (k0_off1_eq ⟨n, hk⟩) (k0_off1_inb i ⟨n, hk⟩ hc0)
      · exact h2 p hp
    · intro y hy
      by_cases hlt : (y 1).val < 128 * n
      · obtain ⟨p, hp, hy⟩ := h3 y hlt
        exact ⟨p, List.mem_cons_of_mem _ hp, hy⟩
      · exact ⟨_, List.mem_cons_self, codes_cover _ n (k0_off1_eq ⟨n, hk⟩) (k0_off1_inb i ⟨n, hk⟩ hc0) y (by omega) (by omega)⟩
    · intro p hp
      rcases List.mem_cons.mp hp with rfl | hp
      · exact rows_piece _ _ ⟨n, hn⟩ (k0_off2_eq ⟨n, hk⟩) (k0_off2_inb i ⟨n, hk⟩ hc0)
      · exact h4 p hp
    · intro y hy
      by_cases hlt : (y 0).val < n
      · obtain ⟨p, hp, hy⟩ := h5 y hlt
        exact ⟨p, List.mem_cons_of_mem _ hp, hy⟩
      · exact ⟨_, List.mem_cons_self, rows_cover _ n (k0_off2_eq ⟨n, hk⟩) (k0_off2_inb i ⟨n, hk⟩ hc0) y (by omega)⟩

end

end Cert.KernelIdeal.Hand

end
-- ==== Proof.Triple.lean ====
module

public import proofs.«01_k».proof.Proof.Quant
public import Idealize.ShloMosaic.Lib.Pipeline.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The output block: its left half from the first accumulator, its right half from the second. -/
def outBlock (C : Vec F S192x8192 .fp8e4m3) (W : Vec F S8192x256 .fp8e4m3) (sw : Vec F S64x128 .f32) (S : Vec F S64x192x128 .f32)
    (i : grid0.Coords) : Vec F S192x256 .bf16 := fun j =>
  if h : (j 1).val < 128 then
    (truncf .bf16 (acc C W sw S i 0 ![0, 0] slices_S192x256_o0_0_S192x128 64 le_rfl) bitsLt_bf16_f32 : FVec F S192x128 .bf16) (ix2 (n0 := 192) (n1 := 128) (j 0) ⟨(j 1).val, h⟩)
  else
    (truncf .bf16 (acc C W sw S i 1 ![0, 128] slices_S192x256_o0_128_S192x128 64 le_rfl) bitsLt_bf16_f32 : FVec F S192x128 .bf16)
      (ix2 (n0 := 192) (n1 := 128) (j 0) ⟨(j 1).val - 128, by have h2 : (j 1).val < 256 := (j 1).isLt; omega⟩)

/-- The output block at row `t` and lane `l` of its left half. -/
theorem outBlock_left (C : Vec F S192x8192 .fp8e4m3) (W : Vec F S8192x256 .fp8e4m3) (sw : Vec F S64x128 .f32) (S : Vec F S64x192x128 .f32)
    (i : grid0.Coords) (j : S192x256.Idx) (t : Fin 192) (l : Fin 128) (h0 : (j 0).val = t.val) (h1 : (j 1).val = l.val) :
    outBlock C W sw S i j
      = (truncf .bf16 (acc C W sw S i 0 ![0, 0] slices_S192x256_o0_0_S192x128 64 le_rfl) bitsLt_bf16_f32 : FVec F S192x128 .bf16) (ix2 t l) := by
  have hl : (j 1).val < 128 := h1 ▸ l.isLt
  have e0 : (j 0 : Fin 192) = t := Fin.ext h0
  have e1 : (⟨(j 1).val, hl⟩ : Fin 128) = l := Fin.ext h1
  unfold outBlock
  rw [dif_pos hl, e0, e1]

/-- The output block at row `t` and lane `l` of its right half. -/
theorem outBlock_right (C : Vec F S192x8192 .fp8e4m3) (W : Vec F S8192x256 .fp8e4m3) (sw : Vec F S64x128 .f32) (S : Vec F S64x192x128 .f32)
    (i : grid0.Coords) (j : S192x256.Idx) (t : Fin 192) (l : Fin 128) (h0 : (j 0).val = t.val) (h1 : (j 1).val = 128 + l.val) :
    outBlock C W sw S i j
      = (truncf .bf16 (acc C W sw S i 1 ![0, 128] slices_S192x256_o0_128_S192x128 64 le_rfl) bitsLt_bf16_f32 : FVec F S192x128 .bf16) (ix2 t l) := by
  have hl : ¬ (j 1).val < 128 := by omega
  have e0 : (j 0 : Fin 192) = t := Fin.ext h0
  have e1 : (⟨(j 1).val - 128, by have h2 : (j 1).val < 256 := (j 1).isLt; omega⟩ : Fin 128) = l := Fin.ext (by show (j 1).val - 128 = l.val; omega)
  unfold outBlock
  rw [dif_neg hl, e0, e1]

/-- The stores into the output block are its values. -/
theorem outPieces_eq (C : Vec F S192x8192 .fp8e4m3) (W : Vec F S8192x256 .fp8e4m3) (sw : Vec F S64x128 .f32) (S : Vec F S64x192x128 .f32)
    (i : grid0.Coords) : ∀ p ∈ outPieces C W sw S i, ∀ x : p.1.shape.Idx, p.2 x = outBlock C W sw S i (p.1.emb x) := by
  intro p hp
  unfold outPieces at hp
  rcases List.mem_cons.mp hp with rfl | hp
  · intro (x : S192x128.Idx)
    refine Eq.trans (congrArg _ (eq_ix2 (n0 := 192) (n1 := 128) x)) (outBlock_right C W sw S i _ (x 0) (x 1) ?_ ?_).symm
    · show 0 + 1 * (x 0).val = (x 0).val
      omega
    · show 128 + 1 * (x 1).val = 128 + (x 1).val
      omega
  · obtain rfl := List.mem_singleton.mp hp
    intro (x : S192x128.Idx)
    refine Eq.trans (congrArg _ (eq_ix2 (n0 := 192) (n1 := 128) x)) (outBlock_left C W sw S i _ (x 0) (x 1) ?_ ?_).symm
    · show 0 + 1 * (x 0).val = (x 0).val
      omega
    · show 0 + 1 * (x 1).val = (x 1).val
      omega

/-- The stores into the output block cover it. -/
theorem outPieces_cover (C : Vec F S192x8192 .fp8e4m3) (W : Vec F S8192x256 .fp8e4m3) (sw : Vec F S64x128 .f32) (S : Vec F S64x192x128 .f32)
    (i : grid0.Coords) (y : S192x256.Idx) : ∃ p ∈ outPieces C W sw S i, y ∈ p.1.set := by
  have h0 : (y 0).val < 192 := (y 0).isLt
  have h1 : (y 1).val < 256 := (y 1).isLt
  by_cases h : (y 1).val < 128
  · refine ⟨_, List.mem_cons_of_mem _ (List.mem_singleton.mpr rfl), (?_ : y ∈ (Rect.unit (s := S192x256) ![0, 0] ![192, 128] inb_S192x256_S192x128_0_0).set)⟩
    refine Rect.mem_set_unit.mpr fun a => ?_
    match a with
    | 0 => exact ⟨Nat.zero_le _, by show (y 0).val < 0 + 192; omega⟩
    | 1 => exact ⟨Nat.zero_le _, by show (y 1).val < 0 + 128; omega⟩
  · refine ⟨_, List.mem_cons_self, (?_ : y ∈ (Rect.unit (s := S192x256) ![0, 128] ![192, 128] inb_S192x256_S192x128_0_128).set)⟩
    refine Rect.mem_set_unit.mpr fun a => ?_
    match a with
    | 0 => exact ⟨Nat.zero_le _, by show (y 0).val < 0 + 192; omega⟩
    | 1 => exact ⟨by show 128 ≤ (y 1).val; omega, by show (y 1).val < 128 + 128; omega⟩

/-- One store over the whole of the scales leaves what it stored. -/
theorem read_scales (v : View sig .tc .vmem S192x64 .f32) (f : v.ty.Contents (Elt F)) (w : Vec F S192x64 .f32) :
    v.read (Elt F) (v.writes (Elt F) f [⟨Rect.unit ![0, 0] ![192, 64] inb_S192x64_S192x64_0_0, w⟩]) = w := by
  refine funext fun y => View.read_writes_apply_of_pieces v f w _ (fun p hp => ?_) y ⟨_, List.mem_singleton.mpr rfl, (?_ : y ∈ (Rect.unit (s := S192x64) ![0, 0] ![192, 64] inb_S192x64_S192x64_0_0).set)⟩
  · obtain rfl := List.mem_singleton.mp hp
    intro (x : S192x64.Idx)
    refine congrArg w (funext fun a => Fin.ext ?_)
    match a with
    | 0 => show (x 0).val = 0 + 1 * (x 0).val; omega
    | 1 => show (x 1).val = 0 + 1 * (x 1).val; omega
  · refine Rect.mem_set_unit.mpr fun a => ?_
    match a with
    | 0 => exact ⟨Nat.zero_le _, (y 0).isLt.trans_eq (Nat.zero_add 192).symm⟩
    | 1 => exact ⟨Nat.zero_le _, (y 1).isLt.trans_eq (Nat.zero_add 64).symm⟩

section

variable (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole)

/-- The body at a later point: it leaves the codes and the scale rows, and fills the output block. -/
theorem triple_later (hc0 : ¬ k0_cond1 i = 1#1) (W : Vec F S8192x256 .fp8e4m3) (sw : Vec F S64x128 .f32) (C : Vec F S192x8192 .fp8e4m3) (S : Vec F S64x192x128 .f32)
    (E : Set ℕ) (K : PUnit → sProp 𝕄) :
    iprop(owns (c : Thread nD τ) arg2 fullShare W ∗ owns (c : Thread nD τ) arg3 fullShare sw ∗ (∃ d, owns (c : Thread nD τ) arg4 fullShare d) ∗ owns (c : Thread nD τ) arg5 fullShare C ∗ owns (c : Thread nD τ) arg7 fullShare S
        ∗ (iprop(owns (c : Thread nD τ) arg2 fullShare W ∗ owns (c : Thread nD τ) arg3 fullShare sw ∗ owns (c : Thread nD τ) arg4 fullShare (outBlock C W sw S i) ∗ owns (c : Thread nD τ) arg5 fullShare C ∗ owns (c : Thread nD τ) arg7 fullShare S) -∗ K ⟨⟩))
      ⊢ wp frame (wpE (defs₀ (F := F)) Variants.none c none) E (cc0__linear_kernel i arg1 harg1 arg2 harg2 arg3 harg3 arg4 harg4 arg5 harg5 arg6 harg6 arg7 harg7) K := by
  unfold owns
  iintro ⟨⟨%f2, %h2, H2⟩, ⟨%f3, %h3, H3⟩, ⟨%d4, %f4, -, H4⟩, ⟨%f5, %h5, H5⟩, ⟨%f7, %h7, H7⟩, Hk⟩
  have hr : arg4.view.read (Elt F) (arg4.view.writes (Elt F) f4 (runB c i arg1 harg1 arg2 harg2 arg3 harg3 arg4 harg4 arg5 harg5 arg6 harg6 arg7 harg7 hc0 f2 f3 f5 f7).1) = outBlock C W sw S i := by
    rw [runB_pieces, h2, h3, h5, h7]
    exact funext fun y => View.read_writes_apply_of_pieces _ _ _ _ (outPieces_eq C W sw S i) y (outPieces_cover C W sw S i y)
  iapply ((runB c i arg1 harg1 arg2 harg2 arg3 harg3 arg4 harg4 arg5 harg5 arg6 harg6 arg7 harg7 hc0 f2 f3 f5 f7).2 E f4 K)
  isplitl [H2]; · iexact H2
  isplitl [H3]; · iexact H3
  isplitl [H4]; · iexact H4
  isplitl [H5]; · iexact H5
  isplitl [H7]; · iexact H7
  iintro ⟨H2, H3, H4, H5, H7⟩
  iapply Hk
  isplitl [H2]; · iexists _; isplitr; (· ipureintro; exact h2); iexact H2
  isplitl [H3]; · iexists _; isplitr; (· ipureintro; exact h3); iexact H3
  isplitl [H4]; · iexists _; isplitr; (· ipureintro; exact hr); iexact H4
  isplitl [H5]; · iexists _; isplitr; (· ipureintro; exact h5); iexact H5
  iexists _; isplitr; (· ipureintro; exact h7); iexact H7

/-- The stores of the first point into the codes. -/
theorem runA_codes (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.1 = (loopState c i arg1 harg1 arg2 harg2 arg3 harg3 arg4 harg4 arg5 harg5 arg6 harg6 arg7 harg7 hc0 f1 (Scf.trips (0#32) (Scalar.addi 0#32 64#32) 1#32)).2.1 := rfl

/-- The stores of the first point into the scale rows. -/
theorem runA_rows (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.2.2.1 = (loopState c i arg1 harg1 arg2 harg2 arg3 harg3 arg4 harg4 arg5 harg5 arg6 harg6 arg7 harg7 hc0 f1 (Scf.trips (0#32) (Scalar.addi 0#32 64#32) 1#32)).2.2 := rfl

/-- The store of the first point into the scales. -/
theorem runA_scales (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.2.1 = [⟨Rect.unit ![0, 0] ![192, 64] inb_S192x64_S192x64_0_0, k0_pay19 (loopState c i arg1 harg1 arg2 harg2 arg3 harg3 arg4 harg4 arg5 harg5 arg6 harg6 arg7 harg7 hc0 f1 (Scf.trips (0#32) (Scalar.addi 0#32 64#32) 1#32)).1⟩] := rfl

set_option maxHeartbeats 4000000 in
/-- The stores of the first point into the output block. -/
theorem runA_pieces (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).1
      = outPieces (arg5.view.read (Elt F) (arg5.view.writes (Elt F) f5 (runA c i arg1 harg1 arg2 harg2 arg3 harg3 arg4 harg4 arg5 harg5 arg6 harg6 arg7 harg7 hc0 f1 f2 f3 f5 f7).2.1)) (arg2.view.read (Elt F) f2) (arg3.view.read (Elt F) f3)
        (arg7.view.read (Elt F) (arg7.view.writes (Elt F) f7 (runA c i arg1 harg1 arg2 harg2 arg3 harg3 arg4 harg4 arg5 harg5 arg6 harg6 arg7 harg7 hc0 f1 f2 f3 f5 f7).2.2.2.1)) i := by
  rfl

/-- The body at the first point: it fills the codes, the scales and the scale rows from the activations, and fills the
    output block from them. -/
theorem triple_first (hc0 : k0_cond1 i = 1#1) (X : Vec F S192x8192 .bf16) (W : Vec F S8192x256 .fp8e4m3) (sw : Vec F S64x128 .f32)
    (E : Set ℕ) (K : PUnit → sProp 𝕄) :
    iprop(owns (c : Thread nD τ) arg1 fullShare X ∗ owns (c : Thread nD τ) arg2 fullShare W ∗ owns (c : Thread nD τ) arg3 fullShare sw ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare X ∗ owns (c : Thread nD τ) arg2 fullShare W ∗ owns (c : Thread nD τ) arg3 fullShare sw ∗ owns (c : Thread nD τ) arg4 fullShare (outBlock (allCodes X) W sw (allRows X) i) ∗ owns (c : Thread nD τ) arg5 fullShare (allCodes X) ∗ owns (c : Thread nD τ) arg6 fullShare (k0_pay19 (packed X 64 le_rfl)) ∗ owns (c : Thread nD τ) arg7 fullShare (allRows X)) -∗ K ⟨⟩))
      ⊢ wp frame (wpE (defs₀ (F := F)) Variants.none c none) E (cc0__linear_kernel i arg1 harg1 arg2 harg2 arg3 harg3 arg4 harg4 arg5 harg5 arg6 harg6 arg7 harg7) K := by
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, Hk⟩
  have htr : Scf.trips (0#32) (Scalar.addi 0#32 64#32) 1#32 = 64 := k0_trips
  have hs := loopState_spec c i arg1 harg1 arg2 harg2 arg3 harg3 arg4 harg4 arg5 harg5 arg6 harg6 arg7 harg7 hc0 f1 64 le_rfl
  rw [h1] at hs
  have r5 : arg5.view.read (Elt F) (arg5.view.writes (Elt F) f5 (runA c i arg1 harg1 arg2 harg2 arg3 harg3 arg4 harg4 arg5 harg5 arg6 harg6 arg7 harg7 hc0 f1 f2 f3 f5 f7).2.1) = allCodes X := by
    rw [runA_codes, htr]
    exact funext fun y => View.read_writes_apply_of_pieces _ _ _ _ hs.2.1 y (hs.2.2.1 y (y 1).isLt)
  have r7 : arg7.view.read (Elt F) (arg7.view.writes (Elt F) f7 (runA c i arg1 harg1 arg2 harg2 arg3 harg3 arg4 harg4 arg5 harg5 arg6 harg6 arg7 harg7 hc0 f1 f2 f3 f5 f7).2.2.2.1) = allRows X := by
    rw [runA_rows, htr]
    exact funext fun y => View.read_writes_apply_of_pieces _ _ _ _ hs.2.2.2.1 y (hs.2.2.2.2 y (y 0).isLt)
  have r6 : arg6.view.read (Elt F) (arg6.view.writes (Elt F) f6 (runA c i arg1 harg1 arg2 harg2 arg3 harg3 arg4 harg4 arg5 harg5 arg6 harg6 arg7 harg7 hc0 f1 f2 f3 f5 f7).2.2.1) = k0_pay19 (packed X 64 le_rfl) := by
    rw [runA_scales, htr, hs.1]
    exact read_scales arg6.view f6 _
  have r4 : arg4.view.read (Elt F) (arg4.view.writes (Elt F) f4 (runA c i arg1 harg1 arg2 harg2 arg3 harg3 arg4 harg4 arg5 harg5 arg6 harg6 arg7 harg7 hc0 f1 f2 f3 f5 f7).1) = outBlock (allCodes X) W sw (allRows X) i := by
    rw [runA_pieces, r5, r7, h2, h3]
    exact funext fun y => View.read_writes_apply_of_pieces _ _ _ _ (outPieces_eq _ W sw _ i) y (outPieces_cover _ W sw _ i y)
  iapply ((runA c i arg1 harg1 arg2 harg2 arg3 harg3 arg4 harg4 arg5 harg5 arg6 harg6 arg7 harg7 hc0 f1 f2 f3 f5 f7).2.2.2.2 E f4 f6 K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iexists _; isplitr; (· ipureintro; exact h1); iexact H1
  isplitl [H2]; · iexists _; isplitr; (· ipureintro; exact h2); iexact H2
  isplitl [H3]; · iexists _; isplitr; (· ipureintro; exact h3); iexact H3
  isplitl [H4]; · iexists _; isplitr; (· ipureintro; exact r4); iexact H4
  isplitl [H5]; · iexists _; isplitr; (· ipureintro; exact r5); iexact H5
  isplitl [H6]; · iexists _; isplitr; (· ipureintro; exact r6); iexact H6
  iexists _; isplitr; (· ipureintro; exact r7); iexact H7

end

end Cert.KernelIdeal.Hand

end
-- ==== Proof.Launch.lean ====
module

public import proofs.«01_k».proof.Proof.Triple
public import proofs.«01_k».proof.Proof.Gen.KernelIdeal.Frame
public import Idealize.ShloMosaic.Lib.Claim
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The quantisation runs at the first point only. -/
theorem first_iff (t : Fin cfg0.N) : k0_cond1 (grid0.coords t) = 1#1 ↔ t.val = 0 := by
  have ht : t.val < 64 := Nat.lt_of_lt_of_eq t.isLt N_0
  have e0 : (grid0.coords t 0).val = t.val / 1 % 64 := Pipeline.Grid.coords_val t 0 (by decide) rfl
  have h : k0_cond1 (grid0.coords t) = 1#1 ↔ t.val % 64 = 0 := by
    simp only [k0_cond1, e0]
    word_cmp
  rw [h]
  omega

/-- The scratch memref: the scale rows. -/
abbrev rowsRef : Memref sig .tc .vmem S64x192x128 .f32 := Memref.whole cc0_scratch0

/-- What the region's scoped rest is: the scale rows at some contents, and the generator register. -/
theorem rest_eq (c : Dev nD) :
    (Pipeline.ΦA spec0 c : sProp 𝕄)
      = iprop(iprop((∃ d, owns (c : Thread nD τ) rowsRef fullShare d)) ∗ (∃ r, prngReg c r)) := by
  unfold Pipeline.ΦA; rw [scopedRest0_eq]; simp only [rowsRef, owns_whole]; try rfl

theorem pos0 : 0 < cfg0.N := by rw [show cfg0.N = 64 from N_0]; decide

/-- The activations the region is entered with. -/
def acts (c : Dev nD) : Vec F S192x8192 .bf16 := iblk m c 0 ⟨0, pos0⟩

/-- The activations' block is the same at every point. -/
theorem acts_eq (c : Dev nD) (t : Fin cfg0.N) : iblk m c 0 t = acts m c := rfl

/-- What the scale rows hold before each point: anything before the first, every group's scales afterwards. -/
def rowsAt (c : Dev nD) (t : ℕ) : sProp 𝕄 :=
  if t = 0 then iprop(∃ d, owns (c : Thread nD τ) rowsRef fullShare d) else owns (c : Thread nD τ) rowsRef fullShare (allRows (acts m c))

/-- The proof data of the pipeline: inputs at their blocks, the output block of each point, the codes and the scales of all the
    activations from the first point on, and the scale rows between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (allCodes (acts m c)) (iblk m c 1 t) (iblk m c 2 t) (allRows (acts m c)) (grid0.coords t)
    | ⟨4, _⟩ => allCodes (acts m c)
    | ⟨5, _⟩ => k0_pay19 (packed (acts m c) 64 le_rfl)
  Φ t := iprop(rowsAt m c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t
    = outBlock (allCodes (acts m c)) (iblk m c 1 t) (iblk m c 2 t) (allRows (acts m c)) (grid0.coords t) := by dsimp only [dats]
theorem after_4 (c : Dev nD) (t : Fin cfg0.N) : (dats m 0 c).after 4 t = allCodes (acts m c) := by dsimp only [dats]
theorem after_5 (c : Dev nD) (t : Fin cfg0.N) : (dats m 0 c).after 5 t = k0_pay19 (packed (acts m c) 64 le_rfl) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The codes' buffer is unwritten before the first point only. -/
theorem fresh_4 (n : ℕ) (hn : n < 64) : cfg0.fresh 4 n = decide (n = 0) := by
  induction n with
  | zero => rfl
  | succ n ih =>
    have hN : n < cfg0.N := by rw [show cfg0.N = 64 from N_0]; omega
    have hf : (cfg0.win 4).flush ⟨n, hN⟩ = false := Bool.eq_false_iff.mpr fun h => by
      have h' : n % 64 = 63 := (flush0_4 _).mp h
      omega
    rw [Pipeline.Cfg.fresh_succ cfg0 4 n hN, ih (by omega), hf]
    by_cases h0 : n = 0
    · subst h0
      have hi : cfg0.idle 4 (cfg0.grid.coords ⟨0, hN⟩) = false := by
        show (!(k0_cond1 (grid0.coords ⟨0, hN⟩) == 1#1)) = false
        rw [(first_iff ⟨0, hN⟩).mpr rfl]
        rfl
      rw [hi]; rfl
    · rw [decide_eq_false h0, decide_eq_false (Nat.succ_ne_zero n), Bool.and_false]; rfl

/-- After the first point the codes' buffer holds the codes. -/
theorem before_4 (c : Dev nD) (t : Fin cfg0.N) (ht : t.val ≠ 0) (d) : (dats m 0 c).before 4 t d = allCodes (acts m c) := by
  have hN : t.val < 64 := lt_of_lt_of_eq t.isLt (show cfg0.N = 64 from N_0)
  rw [(dats m 0 c).before_out_traj 4 rfl (fun _ _ => rfl) (fun t _ _ _ => by rw [after_4, after_4]) t.val t rfl d,
    fresh_4 _ hN, decide_eq_false ht, if_neg Bool.false_ne_true, after_4]

/-- Owning the codes' buffer at the codes is what the body owes at any point. -/
theorem leaves_4 (c : Dev nD) (t : Fin cfg0.N) :
    owns (c : Thread nD τ) ((cfg0.win 4).stage (cfg0.slots t 4)) fullShare (allCodes (acts m c)) ⊢ (dats m 0 c).leavesExact 4 t := by
  have hlive : t.val = 0 → cfg0.idle 4 (cfg0.grid.coords t) = false := fun ht => by
    show (!(k0_cond1 (grid0.coords t) == 1#1)) = false
    rw [(first_iff t).mpr ht]
    rfl
  rcases Bool.eq_false_or_eq_true (cfg0.idle 4 (cfg0.grid.coords t)) with hi | hi
  · rcases Bool.eq_false_or_eq_true ((cfg0.win 4).flush t) with hf | hf
    · unfold Dat.leavesExact
      rw [hi, hf, after_4]
    · have ht : t.val ≠ 0 := fun h => Bool.false_ne_true ((hlive h).symm.trans hi)
      rw [(dats m 0 c).leavesExact_idle 4 t hi hf]
      simp only [before_4 m c t ht]
      iintro H
      iexists (allCodes (acts m c))
      iexact H
  · unfold Dat.leavesExact
    rw [hi, after_4]

/-- The scales' buffer is unwritten before the first point only. -/
theorem fresh_5 (n : ℕ) (hn : n < 64) : cfg0.fresh 5 n = decide (n = 0) := by
  induction n with
  | zero => rfl
  | succ n ih =>
    have hN : n < cfg0.N := by rw [show cfg0.N = 64 from N_0]; omega
    have hf : (cfg0.win 5).flush ⟨n, hN⟩ = false := Bool.eq_false_iff.mpr fun h => by
      have h' : n % 64 = 63 := (flush0_5 _).mp h
      omega
    rw [Pipeline.Cfg.fresh_succ cfg0 5 n hN, ih (by omega), hf]
    by_cases h0 : n = 0
    · subst h0
      have hi : cfg0.idle 5 (cfg0.grid.coords ⟨0, hN⟩) = false := by
        show (!(k0_cond1 (grid0.coords ⟨0, hN⟩) == 1#1)) = false
        rw [(first_iff ⟨0, hN⟩).mpr rfl]
        rfl
      rw [hi]; rfl
    · rw [decide_eq_false h0, decide_eq_false (Nat.succ_ne_zero n), Bool.and_false]; rfl

/-- After the first point the scales' buffer holds the scales. -/
theorem before_5 (c : Dev nD) (t : Fin cfg0.N) (ht : t.val ≠ 0) (d) : (dats m 0 c).before 5 t d = k0_pay19 (packed (acts m c) 64 le_rfl) := by
  have hN : t.val < 64 := lt_of_lt_of_eq t.isLt (show cfg0.N = 64 from N_0)
  rw [(dats m 0 c).before_out_traj 5 rfl (fun _ _ => rfl) (fun t _ _ _ => by rw [after_5, after_5]) t.val t rfl d,
    fresh_5 _ hN, decide_eq_false ht, if_neg Bool.false_ne_true, after_5]

/-- Owning the scales' buffer at the scales is what the body owes at any point. -/
theorem leaves_5 (c : Dev nD) (t : Fin cfg0.N) :
    owns (c : Thread nD τ) ((cfg0.win 5).stage (cfg0.slots t 5)) fullShare (k0_pay19 (packed (acts m c) 64 le_rfl)) ⊢ (dats m 0 c).leavesExact 5 t := by
  have hlive : t.val = 0 → cfg0.idle 5 (cfg0.grid.coords t) = false := fun ht => by
    show (!(k0_cond1 (grid0.coords t) == 1#1)) = false
    rw [(first_iff t).mpr ht]
    rfl
  rcases Bool.eq_false_or_eq_true (cfg0.idle 5 (cfg0.grid.coords t)) with hi | hi
  · rcases Bool.eq_false_or_eq_true ((cfg0.win 5).flush t) with hf | hf
    · unfold Dat.leavesExact
      rw [hi, hf, after_5]
    · have ht : t.val ≠ 0 := fun h => Bool.false_ne_true ((hlive h).symm.trans hi)
      rw [(dats m 0 c).leavesExact_idle 5 t hi hf]
      simp only [before_5 m c t ht]
      iintro H
      iexists (k0_pay19 (packed (acts m c) 64 le_rfl))
      iexact H
  · unfold Dat.leavesExact
    rw [hi, after_5]

/-- Each window's current staging memref. -/
abbrev ref0 (t : Fin cfg0.N) : Memref sig .tc .vmem S192x8192 .bf16 := win0_0.stage (cfg0.slots t 0)
abbrev ref1 (t : Fin cfg0.N) : Memref sig .tc .vmem S8192x256 .fp8e4m3 := win0_1.stage (cfg0.slots t 1)
abbrev ref2 (t : Fin cfg0.N) : Memref sig .tc .smem S64x128 .f32 := win0_2.stage (cfg0.slots t 2)
abbrev ref3 (t : Fin cfg0.N) : Memref sig .tc .vmem S192x256 .bf16 := win0_3.stage (cfg0.slots t 3)
abbrev ref4 (t : Fin cfg0.N) : Memref sig .tc .vmem S192x8192 .fp8e4m3 := win0_4.stage (cfg0.slots t 4)
abbrev ref5 (t : Fin cfg0.N) : Memref sig .tc .vmem S192x64 .f32 := win0_5.stage (cfg0.slots t 5)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ref0 t) fullShare ((dats m 0 c).before 0 t d))
    ∗ (∃ d, owns (c : Thread nD τ) (ref1 t) fullShare ((dats m 0 c).before 1 t d))
    ∗ (∃ d, owns (c : Thread nD τ) (ref2 t) fullShare ((dats m 0 c).before 2 t d))
    ∗ (∃ d, owns (c : Thread nD τ) (ref3 t) fullShare ((dats m 0 c).before 3 t d))
    ∗ (∃ d, owns (c : Thread nD τ) (ref4 t) fullShare ((dats m 0 c).before 4 t d))
    ∗ (∃ d, owns (c : Thread nD τ) (ref5 t) fullShare ((dats m 0 c).before 5 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ref0 t) fullShare ((dats m 0 c).after 0 t)
    ∗ owns (c : Thread nD τ) (ref1 t) fullShare ((dats m 0 c).after 1 t)
    ∗ owns (c : Thread nD τ) (ref2 t) fullShare ((dats m 0 c).after 2 t)
    ∗ owns (c : Thread nD τ) (ref3 t) fullShare ((dats m 0 c).after 3 t)
    ∗ (dats m 0 c).leavesExact 4 t
    ∗ (dats m 0 c).leavesExact 5 t)

set_option maxHeartbeats 800000 in
/-- The body at any point takes what the pipeline gives it to what the proof data say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, acts_eq]
  rw [show (dats m 0 c).owesAt () t.succ = (dats m 0 c).owesAt () t.castSucc from rfl,
    show (dats m 0 c).Φ t.castSucc = iprop(rowsAt m c t.val ∗ (∃ r, prngReg c r)) from rfl,
    show (dats m 0 c).Φ t.succ = iprop(rowsAt m c (t.val + 1) ∗ (∃ r, prngReg c r)) from rfl]
  rw [show rowsAt m c (t.val + 1) = owns (c : Thread nD τ) rowsRef fullShare (allRows (acts m c)) from if_neg (Nat.succ_ne_zero _)]
  by_cases h0 : t.val = 0
  · rw [show rowsAt m c t.val = iprop(∃ d, owns (c : Thread nD τ) rowsRef fullShare d) from if_pos h0]
    iintro ⟨⟨HS, Hg⟩, Ho, ⟨%d0, H0⟩, ⟨%d1, H1⟩, ⟨%d2, H2⟩, ⟨%d3, H3⟩, ⟨%d4, H4⟩, ⟨%d5, H5⟩⟩
    iapply (triple_first c (grid0.coords t) _ _ _ _ _ _ _ _ _ _ _ _ _ _ ((first_iff t).mpr h0) (acts m c) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5
  · rw [show rowsAt m c t.val = owns (c : Thread nD τ) rowsRef fullShare (allRows (acts m c)) from if_neg h0]
    simp only [before_4 m c t h0, before_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (triple_later c (grid0.coords t) _ _ _ _ _ _ _ _ _ _ _ _ _ _ (fun h => h0 ((first_iff t).mp h)) (iblk m c 1 t) (iblk m c 2 t) (allCodes (acts m c)) (allRows (acts m c)) Set.univ _)
    isplitl [H1]; · iexact H1
    isplitl [H2]; · iexact H2
    isplitl [H3]; · iexists _; iexact H3
    isplitl [H4]; · iexact H4
    isplitl [HS]; · iexact HS
    iintro ⟨H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5

/-- The body the pipeline calls at a point is the kernel's. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends as the proof data say, and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop(rowsAt m c 0 ∗ (∃ r, prngReg c r)) from rfl,
        show rowsAt m c 0 = iprop(∃ d, owns (c : Thread nD τ) rowsRef fullShare d) from if_pos rfl]
      exact (rest_eq (F := F) c).le)
    (hout := fun c => by
      rw [show (dats m 0 c).Φ (Fin.last (cfgs 0).N) = iprop(rowsAt m c (cfgs 0).N ∗ (∃ r, prngReg c r)) from rfl,
        show rowsAt m c (cfgs 0).N = owns (c : Thread nD τ) rowsRef fullShare (allRows (acts m c)) from if_neg (Nat.pos_iff_ne_zero.mp pos0)]
      refine BIBase.Entails.trans ?_ (rest_eq (F := F) c).ge
      iintro ⟨HS, Hg⟩
      isplitl [HS]
      · iexists _; iexact HS
      iexact Hg)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Bits.Body.lean ====
module

public import proofs.«01_k».proof.Proof.Gen.Kernel.Frame
public import proofs.«01_k».proof.Proof.Gen.Kernel.Loops
public import Idealize.ShloMosaic.Lib.Pipeline.FrameBody
public import Idealize.ShloMosaic.Lib.Exec

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3268000 in
/-- The body at a point after the first: it reads the weights, the weight scales, the codes and the scale rows, and stores the output block. -/
def runB (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : ¬ k0_cond1 i = 1#1)
    (f2 : BufTy.Contents (Elt F) arg2.view.ty) (f3 : BufTy.Contents (Elt F) arg3.view.ty) (f5 : BufTy.Contents (Elt F) arg5.view.ty) (f7 : BufTy.Contents (Elt F) arg7.view.ty) :
    { L4 : List (View.Piece (Elt F) S192x256 .bf16) //
      ∀ (E : Set ℕ) (f4 : BufTy.Contents (Elt F) arg4.view.ty) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} (arg4.view.writes (Elt F) f4 L4)) ∗ (arg5.view.loc (c : Thread nD τ) ↦[arg5.view.set]{fullShare} f5) ∗ (arg7.view.loc (c : Thread nD τ) ↦[arg7.view.set]{fullShare} f7)) -∗ K ⟨⟩))
          ⊢ wp frame (wpE (defs₀ (F := F)) Variants.none c none) E (cc0__linear_kernel i arg1 harg1 arg2 harg2 arg3 harg3 arg4 harg4 arg5 harg5 arg6 harg6 arg7 harg7) K } := by
  refine ⟨?_, fun E f4 K => ?run⟩
  case run =>
    simp only [cc0__linear_kernel_eq_skeleton]; unfold cc0__linear_kernel_skel
    simp only [k0_part44_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton,
      k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton,
      k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    iintro ⟨H2, H3, H4, H5, H7, Hk⟩
    sl_exec (disch := first | sl_exact hc0)
    sl_step
    iapply Hk
    sl_close

set_option maxHeartbeats 3268000 in
/-- The body at the first point: it quantises the activations into the codes, the scale rows and the scales, and then stores the output block. -/
def runA (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : k0_cond1 i = 1#1)
    (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    Σ' (L4 : List (View.Piece (Elt F) S192x256 .bf16)), Σ' (L5 : List (View.Piece (Elt F) S192x8192 .fp8e4m3)), Σ' (L6 : List (View.Piece (Elt F) S192x64 .f32)), { L7 : List (View.Piece (Elt F) S64x192x128 .f32) //
      ∀ (E : Set ℕ) (f4 : BufTy.Contents (Elt F) arg4.view.ty) (f6 : BufTy.Contents (Elt F) arg6.view.ty) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} (arg4.view.writes (Elt F) f4 L4)) ∗ (arg5.view.loc (c : Thread nD τ) ↦[arg5.view.set]{fullShare} (arg5.view.writes (Elt F) f5 L5)) ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7))) -∗ K ⟨⟩))
          ⊢ wp frame (wpE (defs₀ (F := F)) Variants.none c none) E (cc0__linear_kernel i arg1 harg1 arg2 harg2 arg3 harg3 arg4 harg4 arg5 harg5 arg6 harg6 arg7 harg7) K } := by
  refine ⟨?_, ?_, ?_, ?_, fun E f4 f6 K => ?run⟩
  case run =>
    simp only [cc0__linear_kernel_eq_skeleton]; unfold cc0__linear_kernel_skel
    simp only [k0_part44_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton,
      k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton,
      k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    iintro ⟨H1, H2, H3, H4, H5, H6, H7, Hk⟩
    sl_exec (disch := first | sl_exact hc0)
    sl_step
    iapply Hk
    sl_close

end Cert.Kernel.Hand

end
-- ==== Proof.Bits.Block.lean ====
module

public import proofs.«01_k».proof.Proof.Bits.Body
public import Idealize.ShloMosaic.Lib.Pointwise.Index
public import Idealize.ShloMosaic.Lib.Pipeline.Value

@[expose] public section

set_option maxRecDepth 16384

noncomputable section

namespace Cert.Kernel.Hand

open Cert.Kernel.Gen
open Idealize.ShloMosaic Idealize.ShloMosaic.TcCoe

variable {F : FTy → Type} [FloatOps F]

/-- Where the scalar of group `g` and column half `b` of grid point `i` lies in the weight scales. -/
def swOff (i : grid0.Coords) (g : Fin 64) (b : BitVec 32) : Fin 2 → ℕ :=
  ![g.val, (Scalar.indexCast (Scalar.addi (Scalar.muli (BitVec.ofNat 32 (i 0).val) 2#32) b)).toNat]

theorem swOff_eq : ∀ (i : grid0.Coords) (g : Fin 64) (b : Fin 2), swOff i g (BitVec.ofNat 32 b.val) = ![g.val, 2 * (i 0).val + b.val] := by
  intro i g b
  unfold swOff
  have h := congrFun (k0_off3_eq i b) 1
  unfold k0_off3 at h
  refine funext fun a => ?_
  match a with
  | 0 => rfl
  | 1 => exact h

theorem swOff_inb (i : grid0.Coords) (g : Fin 64) (b : Fin 2) :
    ∀ a, swOff i g (BitVec.ofNat 32 b.val) a + S1x1.size a ≤ S64x128.size a := by
  rw [swOff_eq]
  have hi : (i 0).val < 64 := (i 0).isLt
  have hg := g.isLt
  have hb := b.isLt
  intro a
  match a with
  | 0 => show g.val + 1 ≤ 64; omega
  | 1 => show 2 * (i 0).val + b.val + 1 ≤ 128; omega

theorem codeRect_inb (g : Fin 64) : ∀ a, (![0, 128 * g.val] : Fin 2 → ℕ) a + S192x128.size a ≤ S192x8192.size a := by
  have hg := g.isLt
  intro a
  match a with
  | 0 => exact Nat.le_refl 192
  | 1 => show 128 * g.val + 128 ≤ 8192; omega

theorem weightRect_inb (g : Fin 64) : ∀ a, (![128 * g.val, 0] : Fin 2 → ℕ) a + S128x256.size a ≤ S8192x256.size a := by
  have hg := g.isLt
  intro a
  match a with
  | 0 => show 128 * g.val + 128 ≤ 8192; omega
  | 1 => exact Nat.le_refl 256

theorem rowRect_inb (g : Fin 64) : ∀ a, (![g.val, 0, 0] : Fin 3 → ℕ) a + S1x192x128.size a ≤ S64x192x128.size a := by
  have hg := g.isLt
  intro a
  match a with
  | 0 => show g.val + 1 ≤ 64; omega
  | 1 => exact Nat.le_refl 192
  | 2 => exact Nat.le_refl 128

/-- The codes of group `g`. -/
def codeGroup (C : Vec F S192x8192 .fp8e4m3) (g : Fin 64) : Vec F S192x128 .fp8e4m3 :=
  View.ld C (Rect.unit (s := S192x8192) ![0, 128 * g.val] S192x128.size (codeRect_inb g))

/-- The weight rows of group `g`. -/
def weightGroup (W : Vec F S8192x256 .fp8e4m3) (g : Fin 64) : Vec F S128x256 .fp8e4m3 :=
  View.ld W (Rect.unit (s := S8192x256) ![128 * g.val, 0] S128x256.size (weightRect_inb g))

/-- The scale rows of group `g`. -/
def rowGroup (S : Vec F S64x192x128 .f32) (g : Fin 64) : Vec F S1x192x128 .f32 :=
  View.ld S (Rect.unit (s := S64x192x128) ![g.val, 0, 0] S1x192x128.size (rowRect_inb g))

/-- The weight scale of group `g` and column half `b`. -/
def weightScale (sw : Vec F S64x128 .f32) (i : grid0.Coords) (g : Fin 64) (b : Fin 2) : Elt F .f32 :=
  View.ld sw (Rect.unit (s := S64x128) (swOff i g (BitVec.ofNat 32 b.val)) S1x1.size (swOff_inb i g b)) (Shape.Idx.first (s := S1x1) (by decide))

/-- The product of group `g`'s codes and weights. -/
def partialDot (C : Vec F S192x8192 .fp8e4m3) (W : Vec F S8192x256 .fp8e4m3) (g : Fin 64) : FVec F S192x256 .f32 :=
  matmul (φ₁ := .fp8e4m3) (φ₂ := .fp8e4m3) dot_S192x128_S128x256_S192x256_1_0_0_1_n_n none (shapeCast S192x128 (codeGroup C g) shapeCasts_S192x128_S192x128)
    (weightGroup W g) (constant S192x256 .f32 0x00000000#32)

/-- One step of the accumulation in column half `b`: `off` is where the half starts. -/
def accStep (C : Vec F S192x8192 .fp8e4m3) (W : Vec F S8192x256 .fp8e4m3) (sw : Vec F S64x128 .f32) (S : Vec F S64x192x128 .f32)
    (i : grid0.Coords) (b : Fin 2) (off : Fin 2 → ℕ) (hoff : S192x256.Slices off S192x128) (g : Fin 64) (acc : FVec F S192x128 .f32) : FVec F S192x128 .f32 :=
  addf acc (mulf (extractStridedSlice S192x128 off (partialDot C W g) hoff)
    (mulf (shapeCast S192x128 (rowGroup S g) shapeCasts_S1x192x128_S192x128) (broadcast S192x128 (weightScale sw i g b))))

/-- The accumulator of column half `b` after the first `n` groups. -/
def acc (C : Vec F S192x8192 .fp8e4m3) (W : Vec F S8192x256 .fp8e4m3) (sw : Vec F S64x128 .f32) (S : Vec F S64x192x128 .f32)
    (i : grid0.Coords) (b : Fin 2) (off : Fin 2 → ℕ) (hoff : S192x256.Slices off S192x128) : (n : ℕ) → n ≤ 64 → FVec F S192x128 .f32
  | 0, _ => broadcast S192x128 (Scalar.ofBits .f32 0x00000000#32)
  | n + 1, h => accStep C W sw S i b off hoff ⟨n, h⟩ (acc C W sw S i b off hoff n (Nat.le_of_succ_le h))

/-- The stores into the output block, last first. -/
def outPieces (C : Vec F S192x8192 .fp8e4m3) (W : Vec F S8192x256 .fp8e4m3) (sw : Vec F S64x128 .f32) (S : Vec F S64x192x128 .f32)
    (i : grid0.Coords) : List (View.Piece (Elt F) S192x256 .bf16) :=
  [⟨Rect.unit ![0, 128] ![192, 128] inb_S192x256_S192x128_0_128,
      truncf .bf16 (acc C W sw S i 1 ![0, 128] slices_S192x256_o0_128_S192x128 64 le_rfl) bitsLt_bf16_f32⟩,
    ⟨Rect.unit ![0, 0] ![192, 128] inb_S192x256_S192x128_0_0,
      truncf .bf16 (acc C W sw S i 0 ![0, 0] slices_S192x256_o0_0_S192x128 64 le_rfl) bitsLt_bf16_f32⟩]

set_option maxHeartbeats 4000000 in
theorem runB_pieces (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : ¬ k0_cond1 i = 1#1)
    (f2 : BufTy.Contents (Elt F) arg2.view.ty) (f3 : BufTy.Contents (Elt F) arg3.view.ty) (f5 : BufTy.Contents (Elt F) arg5.view.ty) (f7 : BufTy.Contents (Elt F) arg7.view.ty) :
    (runB c i arg1 harg1 arg2 harg2 arg3 harg3 arg4 harg4 arg5 harg5 arg6 harg6 arg7 harg7 hc0 f2 f3 f5 f7).1
      = outPieces (arg5.view.read (Elt F) f5) (arg2.view.read (Elt F) f2) (arg3.view.read (Elt F) f3) (arg7.view.read (Elt F) f7) i := by
  rfl

end Cert.Kernel.Hand

end
-- ==== Proof.Bits.Quant.lean ====
module

public import proofs.«01_k».proof.Proof.Bits.Block
public import Idealize.ShloMosaic.Lib.Writes

@[expose] public section

set_option maxRecDepth 16384

noncomputable section

namespace Cert.Kernel.Hand

open Cert.Kernel.Gen
open Idealize.ShloMosaic Idealize.ShloMosaic.TcCoe

variable {F : FTy → Type} [FloatOps F]

/-- The activations of group `g`: 128 columns. -/
def cols (X : Vec F S192x8192 .bf16) (g : Fin 64) : Vec F S192x128 .bf16 :=
  View.ld X (Rect.unit (s := S192x8192) ![0, 128 * g.val] S192x128.size (codeRect_inb g))

/-- The scale of every row of one group. -/
def groupScale (x : Vec F S192x128 .bf16) : FVec F S192x1 .f32 :=
  k0_pay12 (k0_pay4 x) (k0_pay8 (k0_pay5 x) (k0_pay6 x) (k0_pay7 x)) (k0_pay9 (k0_pay5 x) (k0_pay6 x) (k0_pay7 x))
    (k0_pay10 (k0_pay5 x) (k0_pay6 x) (k0_pay7 x))

/-- The codes of one group. -/
def groupCodes (x : Vec F S192x128 .bf16) : FVec F S192x128 .fp8e4m3 :=
  k0_pay15 (k0_pay13 (k0_pay3 x) (k0_pay4 x) (k0_pay8 (k0_pay5 x) (k0_pay6 x) (k0_pay7 x)) (k0_pay9 (k0_pay5 x) (k0_pay6 x) (k0_pay7 x))
    (k0_pay10 (k0_pay5 x) (k0_pay6 x) (k0_pay7 x)))

/-- The codes of all the activations: each column's are its group's. -/
def allCodes (X : Vec F S192x8192 .bf16) : Vec F S192x8192 .fp8e4m3 := fun j =>
  groupCodes (cols X ⟨(j 1).val / 128, by have h : (j 1).val < 8192 := (j 1).isLt; omega⟩)
    (ix2 (n0 := 192) (n1 := 128) (j 0) ⟨(j 1).val % 128, Nat.mod_lt _ (by decide)⟩)

/-- The scale rows: each group's scales along the lanes. -/
def allRows (X : Vec F S192x8192 .bf16) : Vec F S64x192x128 .f32 := fun j =>
  k0_pay17 (groupScale (cols X (j 0))) (ix3 (n0 := 1) (n1 := 192) (n2 := 128) 0 (j 1) (j 2))

/-- The scales packed one group per lane, after the first `n` groups. -/
def packed (X : Vec F S192x8192 .bf16) : (n : ℕ) → n ≤ 64 → FVec F S192x128 .f32
  | 0, _ => k0_pay14
  | n + 1, h => k0_pay18 (packed X n (Nat.le_of_succ_le h)) (Scf.iv 0#32 1#32 n) (groupScale (cols X ⟨n, h⟩))

/-- The codes at row `t` and lane `l` of group `g`. -/
theorem allCodes_at (X : Vec F S192x8192 .bf16) (j : S192x8192.Idx) (g : Fin 64) (t : Fin 192) (l : Fin 128)
    (h0 : (j 0).val = t.val) (h1 : (j 1).val = 128 * g.val + l.val) :
    allCodes X j = groupCodes (cols X g) (ix2 t l) := by
  have hl := l.isLt
  have e1 : (⟨(j 1).val / 128, by have h : (j 1).val < 8192 := (j 1).isLt; omega⟩ : Fin 64) = g := Fin.ext (by show (j 1).val / 128 = g.val; omega)
  have e2 : (⟨(j 1).val % 128, Nat.mod_lt _ (by decide)⟩ : Fin 128) = l := Fin.ext (by show (j 1).val % 128 = l.val; omega)
  have e3 : (j 0 : Fin 192) = t := Fin.ext h0
  unfold allCodes
  rw [e1, e2, e3]

/-- The scale rows at group `g`, row `t` and lane `l`. -/
theorem allRows_at (X : Vec F S192x8192 .bf16) (j : S64x192x128.Idx) (g : Fin 64) (t : Fin 192) (l : Fin 128)
    (h0 : (j 0).val = g.val) (h1 : (j 1).val = t.val) (h2 : (j 2).val = l.val) :
    allRows X j = k0_pay17 (groupScale (cols X g)) (ix3 (n0 := 1) (n1 := 192) (n2 := 128) 0 t l) := by
  have e1 : (j 0 : Fin 64) = g := Fin.ext h0
  have e2 : (j 1 : Fin 192) = t := Fin.ext h1
  have e3 : (j 2 : Fin 128) = l := Fin.ext h2
  unfold allRows
  rw [e1, e2, e3]

/-- A group's codes are those of its columns. -/
theorem codes_piece (X : Vec F S192x8192 .bf16) (off : Fin 2 → ℕ) (g : Fin 64) (ho : off = ![0, 128 * g.val])
    (h : ∀ a, off a + S192x128.size a ≤ S192x8192.size a) (x : S192x128.Idx) :
    groupCodes (cols X g) x = allCodes X ((Rect.unit (s := S192x8192) off S192x128.size h).emb x) := by
  subst ho
  refine Eq.trans (congrArg _ (eq_ix2 (n0 := 192) (n1 := 128) x)) (allCodes_at X _ g (x 0) (x 1) ?_ ?_).symm
  · show 0 + 1 * (x 0).val = (x 0).val
    omega
  · show 128 * g.val + 1 * (x 1).val = 128 * g.val + (x 1).val
    omega

theorem codes_cover (off : Fin 2 → ℕ) (n : ℕ) (ho : off = ![0, 128 * n])
    (h : ∀ a, off a + S192x128.size a ≤ S192x8192.size a) (y : S192x8192.Idx) (h1 : 128 * n ≤ (y 1).val) (h2 : (y 1).val < 128 * n + 128) :
    y ∈ (Rect.unit (s := S192x8192) off S192x128.size h).set := by
  subst ho
  refine Rect.mem_set_unit.mpr fun a => ?_
  match a with
  | 0 => exact ⟨Nat.zero_le _, (y 0).isLt.trans_eq (Nat.zero_add 192).symm⟩
  | 1 => exact ⟨h1, h2⟩

theorem rows_piece (X : Vec F S192x8192 .bf16) (off : Fin 3 → ℕ) (g : Fin 64) (ho : off = ![g.val, 0, 0])
    (h : ∀ a, off a + S1x192x128.size a ≤ S64x192x128.size a) (x : S1x192x128.Idx) :
    k0_pay17 (groupScale (cols X g)) x = allRows X ((Rect.unit (s := S64x192x128) off S1x192x128.size h).emb x) := by
  subst ho
  have x0 : (x 0).val < 1 := (x 0).isLt
  have e0 : (x 0 : Fin 1) = (0 : Fin 1) := Subsingleton.elim (α := Fin 1) _ _
  have ex : x = ix3 (n0 := 1) (n1 := 192) (n2 := 128) 0 (x 1) (x 2) :=
    (eq_ix3 (n0 := 1) (n1 := 192) (n2 := 128) x).trans (congrArg (fun z => ix3 (n0 := 1) (n1 := 192) (n2 := 128) z (x 1) (x 2)) e0)
  refine Eq.trans (congrArg _ ex) (allRows_at X _ g (x 1) (x 2) ?_ ?_ ?_).symm
  · show g.val + 1 * (x 0).val = g.val
    omega
  · show 0 + 1 * (x 1).val = (x 1).val
    omega
  · show 0 + 1 * (x 2).val = (x 2).val
    omega

theorem rows_cover (off : Fin 3 → ℕ) (n : ℕ) (ho : off = ![n, 0, 0])
    (h : ∀ a, off a + S1x192x128.size a ≤ S64x192x128.size a) (y : S64x192x128.Idx) (h1 : (y 0).val = n) :
    y ∈ (Rect.unit (s := S64x192x128) off S1x192x128.size h).set := by
  subst ho
  refine Rect.mem_set_unit.mpr fun a => ?_
  match a with
  | 0 => exact ⟨h1.ge, by show (y 0).val < n + 1; omega⟩
  | 1 => exact ⟨Nat.zero_le _, (y 1).isLt.trans_eq (Nat.zero_add 192).symm⟩
  | 2 => exact ⟨Nat.zero_le _, (y 2).isLt.trans_eq (Nat.zero_add 128).symm⟩

theorem k0_trips : k0_t1_loop.trips = 64 := by decide +kernel

section

variable (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole) (hc0 : k0_cond1 i = 1#1)
  (f1 : BufTy.Contents (Elt F) arg1.view.ty)

/-- The loop's state before trip `n`. -/
abbrev loopState (n : ℕ) := st_k0_t1 Variants.none c none i arg1 harg1 arg2 harg2 arg3 harg3 arg4 harg4 arg5 harg5 arg6 harg6 arg7 harg7 hc0 f1 (k0_pay14 (F := F)) n

/-- The group a trip loads. -/
theorem trip_cols (k : Fin k0_t1_loop.trips) (g : Fin 64) (hg : g.val = k.val) :
    View.readAt (Elt F) arg1.view (Rect.unit (s := S192x8192) (k0_off1 k) S192x128.size (k0_off1_inb i k hc0)).toLoadRect f1
      = cols (arg1.view.read (Elt F) f1) g := by
  have hk : k.val < 64 := hg ▸ g.isLt
  have e : g = ⟨k.val, hk⟩ := Fin.ext hg
  rw [e]
  exact View.readAt_unit_congr arg1.view (k0_off1_eq k) _ (codeRect_inb ⟨k.val, hk⟩) f1

theorem trip_result (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).1 acc
      = k0_pay18 acc (Scf.iv 0#32 1#32 k.val) (groupScale (cols (arg1.view.read (Elt F) f1) g)) := by
  rw [← trip_cols i arg1 hc0 f1 k g hg]
  unfold trip_k0_t1
  rfl

theorem trip_codes (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).2.1 acc
      = [⟨Rect.unit (k0_off1 k) ![192, 128] (k0_off1_inb i k hc0), groupCodes (cols (arg1.view.read (Elt F) f1) g)⟩] := by
  rw [← trip_cols i arg1 hc0 f1 k g hg]
  unfold trip_k0_t1
  rfl

theorem trip_rows (k : Fin k0_t1_loop.trips) (g : Fin 64) (hg : g.val = k.val) (acc : FVec F S192x128 .f32) :
    (trip_k0_t1 Variants.none c none i arg1 harg1 arg2 harg2 arg3 harg3 arg4 harg4 arg5 harg5 arg6 harg6 arg7 harg7 hc0 f1 k).2.2.1 acc
      = [⟨Rect.unit (k0_off2 k) ![1, 192, 128] (k0_off2_inb i k hc0), k0_pay17 (groupScale (cols (arg1.view.read (Elt F) f1) g))⟩] := by
  rw [← trip_cols i arg1 hc0 f1 k g hg]
  unfold trip_k0_t1
  rfl

/-- Before trip `n` the loop carries the scales of the first `n` groups, its stores into the codes are their codes and
    cover their columns, and its stores into the scale rows are their rows and cover them. -/
theorem loopState_spec (n : ℕ) (hn : n ≤ 64) :
    (loopState c i arg1 harg1 arg2 harg2 arg3 harg3 arg4 harg4 arg5 harg5 arg6 harg6 arg7 harg7 hc0 f1 n).1 = packed (arg1.view.read (Elt F) f1) n hn
    ∧ (∀ p ∈ (loopState c i arg1 harg1 arg2 harg2 arg3 harg3 arg4 harg4 arg5 harg5 arg6 harg6 arg7 harg7 hc0 f1 n).2.1, ∀ x : p.1.shape.Idx, p.2 x = allCodes (arg1.view.read (Elt F) f1) (p.1.emb x))
    ∧ (∀ y : S192x8192.Idx, (y 1).val < 128 * n → ∃ p ∈ (loopState c i arg1 harg1 arg2 harg2 arg3 harg3 arg4 harg4 arg5 harg5 arg6 harg6 arg7 harg7 hc0 f1 n).2.1, y ∈ p.1.set)
    ∧ (∀ p ∈ (loopState c i arg1 harg1 arg2 harg2 arg3 harg3 arg4 harg4 arg5 harg5 arg6 harg6 arg7 harg7 hc0 f1 n).2.2, ∀ x : p.1.shape.Idx, p.2 x = allRows (arg1.view.read (Elt F) f1) (p.1.emb x))
    ∧ (∀ y : S64x192x128.Idx, (y 0).val < n → ∃ p ∈ (loopState c i arg1 harg1 arg2 harg2 arg3 harg3 arg4 harg4 arg5 harg5 arg6 harg6 arg7 harg7 hc0 f1 n).2.2, y ∈ p.1.set) := by
  induction n with
  | zero =>
    refine ⟨rfl, ?_, ?_, ?_, ?_⟩
    · intro p hp; exact absurd hp List.not_mem_nil
    · intro y hy; omega
    · intro p hp; exact absurd hp List.not_mem_nil
    · intro y hy; omega
  | succ n ih =>
    obtain ⟨h1, h2, h3, h4, h5⟩ := ih (Nat.le_of_succ_le hn)
    have hk : n < k0_t1_loop.trips := by rw [k0_trips]; exact hn
    have e := st_k0_t1_succ Variants.none c none i arg1 harg1 arg2 harg2 arg3 harg3 arg4 harg4 arg5 harg5 arg6 harg6 arg7 harg7 hc0 f1 (k0_pay14 (F := F)) ⟨n, hk⟩
    simp only [trip_result c i arg1 harg1 arg2 harg2 arg3 harg3 arg4 harg4 arg5 harg5 arg6 harg6 arg7 harg7 hc0 f1 ⟨n, hk⟩ ⟨n, hn⟩ rfl, trip_codes c i arg1 harg1 arg2 harg2 arg3 harg3 arg4 harg4 arg5 harg5 arg6 harg6 arg7 harg7 hc0 f1 ⟨n, hk⟩ ⟨n, hn⟩ rfl,
      trip_rows c i arg1 harg1 arg2 harg2 arg3 harg3 arg4 harg4 arg5 harg5 arg6 harg6 arg7 harg7 hc0 f1 ⟨n, hk⟩ ⟨n, hn⟩ rfl] at e
    unfold loopState at h1 h2 h3 h4 h5 ⊢
    rw [e]
    refine ⟨?_, ?_, ?_, ?_, ?_⟩
    · rw [h1]; rfl
    · intro p hp
      rcases List.mem_cons.mp hp with rfl | hp
      · exact codes_piece _ _ ⟨n, hn⟩ (k0_off1_eq ⟨n, hk⟩) (k0_off1_inb i ⟨n, hk⟩ hc0)
      · exact h2 p hp
    · intro y hy
      by_cases hlt : (y 1).val < 128 * n
      · obtain ⟨p, hp, hy⟩ := h3 y hlt
        exact ⟨p, List.mem_cons_of_mem _ hp, hy⟩
      · exact ⟨_, List.mem_cons_self, codes_cover _ n (k0_off1_eq ⟨n, hk⟩) (k0_off1_inb i ⟨n, hk⟩ hc0) y (by omega) (by omega)⟩
    · intro p hp
      rcases List.mem_cons.mp hp with rfl | hp
      · exact rows_piece _ _ ⟨n, hn⟩ (k0_off2_eq ⟨n, hk⟩) (k0_off2_inb i ⟨n, hk⟩ hc0)
      · exact h4 p hp
    · intro y hy
      by_cases hlt : (y 0).val < n
      · obtain ⟨p, hp, hy⟩ := h5 y hlt
        exact ⟨p, List.mem_cons_of_mem _ hp, hy⟩
      · exact ⟨_, List.mem_cons_self, rows_cover _ n (k0_off2_eq ⟨n, hk⟩) (k0_off2_inb i ⟨n, hk⟩ hc0) y (by omega)⟩

end

end Cert.Kernel.Hand

end
-- ==== Proof.Bits.Triple.lean ====
module

public import proofs.«01_k».proof.Proof.Bits.Quant
public import Idealize.ShloMosaic.Lib.Pipeline.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The output block: its left half from the first accumulator, its right half from the second. -/
def outBlock (C : Vec F S192x8192 .fp8e4m3) (W : Vec F S8192x256 .fp8e4m3) (sw : Vec F S64x128 .f32) (S : Vec F S64x192x128 .f32)
    (i : grid0.Coords) : Vec F S192x256 .bf16 := fun j =>
  if h : (j 1).val < 128 then
    (truncf .bf16 (acc C W sw S i 0 ![0, 0] slices_S192x256_o0_0_S192x128 64 le_rfl) bitsLt_bf16_f32 : FVec F S192x128 .bf16) (ix2 (n0 := 192) (n1 := 128) (j 0) ⟨(j 1).val, h⟩)
  else
    (truncf .bf16 (acc C W sw S i 1 ![0, 128] slices_S192x256_o0_128_S192x128 64 le_rfl) bitsLt_bf16_f32 : FVec F S192x128 .bf16)
      (ix2 (n0 := 192) (n1 := 128) (j 0) ⟨(j 1).val - 128, by have h2 : (j 1).val < 256 := (j 1).isLt; omega⟩)

/-- The output block at row `t` and lane `l` of its left half. -/
theorem outBlock_left (C : Vec F S192x8192 .fp8e4m3) (W : Vec F S8192x256 .fp8e4m3) (sw : Vec F S64x128 .f32) (S : Vec F S64x192x128 .f32)
    (i : grid0.Coords) (j : S192x256.Idx) (t : Fin 192) (l : Fin 128) (h0 : (j 0).val = t.val) (h1 : (j 1).val = l.val) :
    outBlock C W sw S i j
      = (truncf .bf16 (acc C W sw S i 0 ![0, 0] slices_S192x256_o0_0_S192x128 64 le_rfl) bitsLt_bf16_f32 : FVec F S192x128 .bf16) (ix2 t l) := by
  have hl : (j 1).val < 128 := h1 ▸ l.isLt
  have e0 : (j 0 : Fin 192) = t := Fin.ext h0
  have e1 : (⟨(j 1).val, hl⟩ : Fin 128) = l := Fin.ext h1
  unfold outBlock
  rw [dif_pos hl, e0, e1]

/-- The output block at row `t` and lane `l` of its right half. -/
theorem outBlock_right (C : Vec F S192x8192 .fp8e4m3) (W : Vec F S8192x256 .fp8e4m3) (sw : Vec F S64x128 .f32) (S : Vec F S64x192x128 .f32)
    (i : grid0.Coords) (j : S192x256.Idx) (t : Fin 192) (l : Fin 128) (h0 : (j 0).val = t.val) (h1 : (j 1).val = 128 + l.val) :
    outBlock C W sw S i j
      = (truncf .bf16 (acc C W sw S i 1 ![0, 128] slices_S192x256_o0_128_S192x128 64 le_rfl) bitsLt_bf16_f32 : FVec F S192x128 .bf16) (ix2 t l) := by
  have hl : ¬ (j 1).val < 128 := by omega
  have e0 : (j 0 : Fin 192) = t := Fin.ext h0
  have e1 : (⟨(j 1).val - 128, by have h2 : (j 1).val < 256 := (j 1).isLt; omega⟩ : Fin 128) = l := Fin.ext (by show (j 1).val - 128 = l.val; omega)
  unfold outBlock
  rw [dif_neg hl, e0, e1]

/-- The stores into the output block are its values. -/
theorem outPieces_eq (C : Vec F S192x8192 .fp8e4m3) (W : Vec F S8192x256 .fp8e4m3) (sw : Vec F S64x128 .f32) (S : Vec F S64x192x128 .f32)
    (i : grid0.Coords) : ∀ p ∈ outPieces C W sw S i, ∀ x : p.1.shape.Idx, p.2 x = outBlock C W sw S i (p.1.emb x) := by
  intro p hp
  unfold outPieces at hp
  rcases List.mem_cons.mp hp with rfl | hp
  · intro (x : S192x128.Idx)
    refine Eq.trans (congrArg _ (eq_ix2 (n0 := 192) (n1 := 128) x)) (outBlock_right C W sw S i _ (x 0) (x 1) ?_ ?_).symm
    · show 0 + 1 * (x 0).val = (x 0).val
      omega
    · show 128 + 1 * (x 1).val = 128 + (x 1).val
      omega
  · obtain rfl := List.mem_singleton.mp hp
    intro (x : S192x128.Idx)
    refine Eq.trans (congrArg _ (eq_ix2 (n0 := 192) (n1 := 128) x)) (outBlock_left C W sw S i _ (x 0) (x 1) ?_ ?_).symm
    · show 0 + 1 * (x 0).val = (x 0).val
      omega
    · show 0 + 1 * (x 1).val = (x 1).val
      omega

/-- The stores into the output block cover it. -/
theorem outPieces_cover (C : Vec F S192x8192 .fp8e4m3) (W : Vec F S8192x256 .fp8e4m3) (sw : Vec F S64x128 .f32) (S : Vec F S64x192x128 .f32)
    (i : grid0.Coords) (y : S192x256.Idx) : ∃ p ∈ outPieces C W sw S i, y ∈ p.1.set := by
  have h0 : (y 0).val < 192 := (y 0).isLt
  have h1 : (y 1).val < 256 := (y 1).isLt
  by_cases h : (y 1).val < 128
  · refine ⟨_, List.mem_cons_of_mem _ (List.mem_singleton.mpr rfl), (?_ : y ∈ (Rect.unit (s := S192x256) ![0, 0] ![192, 128] inb_S192x256_S192x128_0_0).set)⟩
    refine Rect.mem_set_unit.mpr fun a => ?_
    match a with
    | 0 => exact ⟨Nat.zero_le _, by show (y 0).val < 0 + 192; omega⟩
    | 1 => exact ⟨Nat.zero_le _, by show (y 1).val < 0 + 128; omega⟩
  · refine ⟨_, List.mem_cons_self, (?_ : y ∈ (Rect.unit (s := S192x256) ![0, 128] ![192, 128] inb_S192x256_S192x128_0_128).set)⟩
    refine Rect.mem_set_unit.mpr fun a => ?_
    match a with
    | 0 => exact ⟨Nat.zero_le _, by show (y 0).val < 0 + 192; omega⟩
    | 1 => exact ⟨by show 128 ≤ (y 1).val; omega, by show (y 1).val < 128 + 128; omega⟩

/-- One store over the whole of the scales leaves what it stored. -/
theorem read_scales (v : View sig .tc .vmem S192x64 .f32) (f : v.ty.Contents (Elt F)) (w : Vec F S192x64 .f32) :
    v.read (Elt F) (v.writes (Elt F) f [⟨Rect.unit ![0, 0] ![192, 64] inb_S192x64_S192x64_0_0, w⟩]) = w := by
  refine funext fun y => View.read_writes_apply_of_pieces v f w _ (fun p hp => ?_) y ⟨_, List.mem_singleton.mpr rfl, (?_ : y ∈ (Rect.unit (s := S192x64) ![0, 0] ![192, 64] inb_S192x64_S192x64_0_0).set)⟩
  · obtain rfl := List.mem_singleton.mp hp
    intro (x : S192x64.Idx)
    refine congrArg w (funext fun a => Fin.ext ?_)
    match a with
    | 0 => show (x 0).val = 0 + 1 * (x 0).val; omega
    | 1 => show (x 1).val = 0 + 1 * (x 1).val; omega
  · refine Rect.mem_set_unit.mpr fun a => ?_
    match a with
    | 0 => exact ⟨Nat.zero_le _, (y 0).isLt.trans_eq (Nat.zero_add 192).symm⟩
    | 1 => exact ⟨Nat.zero_le _, (y 1).isLt.trans_eq (Nat.zero_add 64).symm⟩

section

variable (c : Dev nD) (i : grid0.Coords) (arg1 : Memref sig .tc .vmem S192x8192 .bf16) (harg1 : arg1.IsWhole) (arg2 : Memref sig .tc .vmem S8192x256 .fp8e4m3) (harg2 : arg2.IsWhole) (arg3 : Memref sig .tc .smem S64x128 .f32) (harg3 : arg3.IsWhole) (arg4 : Memref sig .tc .vmem S192x256 .bf16) (harg4 : arg4.IsWhole) (arg5 : Memref sig .tc .vmem S192x8192 .fp8e4m3) (harg5 : arg5.IsWhole) (arg6 : Memref sig .tc .vmem S192x64 .f32) (harg6 : arg6.IsWhole) (arg7 : Memref sig .tc .vmem S64x192x128 .f32) (harg7 : arg7.IsWhole)

/-- The body at a later point: it leaves the codes and the scale rows, and fills the output block. -/
theorem triple_later (hc0 : ¬ k0_cond1 i = 1#1) (W : Vec F S8192x256 .fp8e4m3) (sw : Vec F S64x128 .f32) (C : Vec F S192x8192 .fp8e4m3) (S : Vec F S64x192x128 .f32)
    (E : Set ℕ) (K : PUnit → sProp 𝕄) :
    iprop(owns (c : Thread nD τ) arg2 fullShare W ∗ owns (c : Thread nD τ) arg3 fullShare sw ∗ (∃ d, owns (c : Thread nD τ) arg4 fullShare d) ∗ owns (c : Thread nD τ) arg5 fullShare C ∗ owns (c : Thread nD τ) arg7 fullShare S
        ∗ (iprop(owns (c : Thread nD τ) arg2 fullShare W ∗ owns (c : Thread nD τ) arg3 fullShare sw ∗ owns (c : Thread nD τ) arg4 fullShare (outBlock C W sw S i) ∗ owns (c : Thread nD τ) arg5 fullShare C ∗ owns (c : Thread nD τ) arg7 fullShare S) -∗ K ⟨⟩))
      ⊢ wp frame (wpE (defs₀ (F := F)) Variants.none c none) E (cc0__linear_kernel i arg1 harg1 arg2 harg2 arg3 harg3 arg4 harg4 arg5 harg5 arg6 harg6 arg7 harg7) K := by
  unfold owns
  iintro ⟨⟨%f2, %h2, H2⟩, ⟨%f3, %h3, H3⟩, ⟨%d4, %f4, -, H4⟩, ⟨%f5, %h5, H5⟩, ⟨%f7, %h7, H7⟩, Hk⟩
  have hr : arg4.view.read (Elt F) (arg4.view.writes (Elt F) f4 (runB c i arg1 harg1 arg2 harg2 arg3 harg3 arg4 harg4 arg5 harg5 arg6 harg6 arg7 harg7 hc0 f2 f3 f5 f7).1) = outBlock C W sw S i := by
    rw [runB_pieces, h2, h3, h5, h7]
    exact funext fun y => View.read_writes_apply_of_pieces _ _ _ _ (outPieces_eq C W sw S i) y (outPieces_cover C W sw S i y)
  iapply ((runB c i arg1 harg1 arg2 harg2 arg3 harg3 arg4 harg4 arg5 harg5 arg6 harg6 arg7 harg7 hc0 f2 f3 f5 f7).2 E f4 K)
  isplitl [H2]; · iexact H2
  isplitl [H3]; · iexact H3
  isplitl [H4]; · iexact H4
  isplitl [H5]; · iexact H5
  isplitl [H7]; · iexact H7
  iintro ⟨H2, H3, H4, H5, H7⟩
  iapply Hk
  isplitl [H2]; · iexists _; isplitr; (· ipureintro; exact h2); iexact H2
  isplitl [H3]; · iexists _; isplitr; (· ipureintro; exact h3); iexact H3
  isplitl [H4]; · iexists _; isplitr; (· ipureintro; exact hr); iexact H4
  isplitl [H5]; · iexists _; isplitr; (· ipureintro; exact h5); iexact H5
  iexists _; isplitr; (· ipureintro; exact h7); iexact H7

/-- The stores of the first point into the codes. -/
theorem runA_codes (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.1 = (loopState c i arg1 harg1 arg2 harg2 arg3 harg3 arg4 harg4 arg5 harg5 arg6 harg6 arg7 harg7 hc0 f1 (Scf.trips (0#32) (Scalar.addi 0#32 64#32) 1#32)).2.1 := rfl

/-- The stores of the first point into the scale rows. -/
theorem runA_rows (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.2.2.1 = (loopState c i arg1 harg1 arg2 harg2 arg3 harg3 arg4 harg4 arg5 harg5 arg6 harg6 arg7 harg7 hc0 f1 (Scf.trips (0#32) (Scalar.addi 0#32 64#32) 1#32)).2.2 := rfl

/-- The store of the first point into the scales. -/
theorem runA_scales (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).2.2.1 = [⟨Rect.unit ![0, 0] ![192, 64] inb_S192x64_S192x64_0_0, k0_pay19 (loopState c i arg1 harg1 arg2 harg2 arg3 harg3 arg4 harg4 arg5 harg5 arg6 harg6 arg7 harg7 hc0 f1 (Scf.trips (0#32) (Scalar.addi 0#32 64#32) 1#32)).1⟩] := rfl

set_option maxHeartbeats 4000000 in
/-- The stores of the first point into the output block. -/
theorem runA_pieces (hc0 : k0_cond1 i = 1#1) (f1 : BufTy.Contents (Elt F) arg1.view.ty) (f2 : BufTy.Contents (Elt F) arg2.view.ty) (f3 : BufTy.Contents (Elt F) arg3.view.ty) (f5 : BufTy.Contents (Elt F) arg5.view.ty) (f7 : BufTy.Contents (Elt F) arg7.view.ty) :
    (runA c i arg1 harg1 arg2 harg2 arg3 harg3 arg4 harg4 arg5 harg5 arg6 harg6 arg7 harg7 hc0 f1 f2 f3 f5 f7).1
      = outPieces (arg5.view.read (Elt F) (arg5.view.writes (Elt F) f5 (runA c i arg1 harg1 arg2 harg2 arg3 harg3 arg4 harg4 arg5 harg5 arg6 harg6 arg7 harg7 hc0 f1 f2 f3 f5 f7).2.1)) (arg2.view.read (Elt F) f2) (arg3.view.read (Elt F) f3)
        (arg7.view.read (Elt F) (arg7.view.writes (Elt F) f7 (runA c i arg1 harg1 arg2 harg2 arg3 harg3 arg4 harg4 arg5 harg5 arg6 harg6 arg7 harg7 hc0 f1 f2 f3 f5 f7).2.2.2.1)) i := by
  rfl

/-- The body at the first point: it fills the codes, the scales and the scale rows from the activations, and fills the
    output block from them. -/
theorem triple_first (hc0 : k0_cond1 i = 1#1) (X : Vec F S192x8192 .bf16) (W : Vec F S8192x256 .fp8e4m3) (sw : Vec F S64x128 .f32)
    (E : Set ℕ) (K : PUnit → sProp 𝕄) :
    iprop(owns (c : Thread nD τ) arg1 fullShare X ∗ owns (c : Thread nD τ) arg2 fullShare W ∗ owns (c : Thread nD τ) arg3 fullShare sw ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare X ∗ owns (c : Thread nD τ) arg2 fullShare W ∗ owns (c : Thread nD τ) arg3 fullShare sw ∗ owns (c : Thread nD τ) arg4 fullShare (outBlock (allCodes X) W sw (allRows X) i) ∗ owns (c : Thread nD τ) arg5 fullShare (allCodes X) ∗ owns (c : Thread nD τ) arg6 fullShare (k0_pay19 (packed X 64 le_rfl)) ∗ owns (c : Thread nD τ) arg7 fullShare (allRows X)) -∗ K ⟨⟩))
      ⊢ wp frame (wpE (defs₀ (F := F)) Variants.none c none) E (cc0__linear_kernel i arg1 harg1 arg2 harg2 arg3 harg3 arg4 harg4 arg5 harg5 arg6 harg6 arg7 harg7) K := by
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, Hk⟩
  have htr : Scf.trips (0#32) (Scalar.addi 0#32 64#32) 1#32 = 64 := k0_trips
  have hs := loopState_spec c i arg1 harg1 arg2 harg2 arg3 harg3 arg4 harg4 arg5 harg5 arg6 harg6 arg7 harg7 hc0 f1 64 le_rfl
  rw [h1] at hs
  have r5 : arg5.view.read (Elt F) (arg5.view.writes (Elt F) f5 (runA c i arg1 harg1 arg2 harg2 arg3 harg3 arg4 harg4 arg5 harg5 arg6 harg6 arg7 harg7 hc0 f1 f2 f3 f5 f7).2.1) = allCodes X := by
    rw [runA_codes, htr]
    exact funext fun y => View.read_writes_apply_of_pieces _ _ _ _ hs.2.1 y (hs.2.2.1 y (y 1).isLt)
  have r7 : arg7.view.read (Elt F) (arg7.view.writes (Elt F) f7 (runA c i arg1 harg1 arg2 harg2 arg3 harg3 arg4 harg4 arg5 harg5 arg6 harg6 arg7 harg7 hc0 f1 f2 f3 f5 f7).2.2.2.1) = allRows X := by
    rw [runA_rows, htr]
    exact funext fun y => View.read_writes_apply_of_pieces _ _ _ _ hs.2.2.2.1 y (hs.2.2.2.2 y (y 0).isLt)
  have r6 : arg6.view.read (Elt F) (arg6.view.writes (Elt F) f6 (runA c i arg1 harg1 arg2 harg2 arg3 harg3 arg4 harg4 arg5 harg5 arg6 harg6 arg7 harg7 hc0 f1 f2 f3 f5 f7).2.2.1) = k0_pay19 (packed X 64 le_rfl) := by
    rw [runA_scales, htr, hs.1]
    exact read_scales arg6.view f6 _
  have r4 : arg4.view.read (Elt F) (arg4.view.writes (Elt F) f4 (runA c i arg1 harg1 arg2 harg2 arg3 harg3 arg4 harg4 arg5 harg5 arg6 harg6 arg7 harg7 hc0 f1 f2 f3 f5 f7).1) = outBlock (allCodes X) W sw (allRows X) i := by
    rw [runA_pieces, r5, r7, h2, h3]
    exact funext fun y => View.read_writes_apply_of_pieces _ _ _ _ (outPieces_eq _ W sw _ i) y (outPieces_cover _ W sw _ i y)
  iapply ((runA c i arg1 harg1 arg2 harg2 arg3 harg3 arg4 harg4 arg5 harg5 arg6 harg6 arg7 harg7 hc0 f1 f2 f3 f5 f7).2.2.2.2 E f4 f6 K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iexists _; isplitr; (· ipureintro; exact h1); iexact H1
  isplitl [H2]; · iexists _; isplitr; (· ipureintro; exact h2); iexact H2
  isplitl [H3]; · iexists _; isplitr; (· ipureintro; exact h3); iexact H3
  isplitl [H4]; · iexists _; isplitr; (· ipureintro; exact r4); iexact H4
  isplitl [H5]; · iexists _; isplitr; (· ipureintro; exact r5); iexact H5
  isplitl [H6]; · iexists _; isplitr; (· ipureintro; exact r6); iexact H6
  iexists _; isplitr; (· ipureintro; exact r7); iexact H7

end

end Cert.Kernel.Hand

end
-- ==== Proof.Bits.Launch.lean ====
module

public import proofs.«01_k».proof.Proof.Bits.Triple
public import proofs.«01_k».proof.Proof.Gen.Kernel.Frame
public import Idealize.ShloMosaic.Lib.Claim
public import Idealize.ShloMosaic.Lib.Pipeline.TableIdle

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The quantisation runs at the first point only. -/
theorem first_iff (t : Fin cfg0.N) : k0_cond1 (grid0.coords t) = 1#1 ↔ t.val = 0 := by
  have ht : t.val < 64 := Nat.lt_of_lt_of_eq t.isLt N_0
  have e0 : (grid0.coords t 0).val = t.val / 1 % 64 := Pipeline.Grid.coords_val t 0 (by decide) rfl
  have h : k0_cond1 (grid0.coords t) = 1#1 ↔ t.val % 64 = 0 := by
    simp only [k0_cond1, e0]
    word_cmp
  rw [h]
  omega

/-- The scratch memref: the scale rows. -/
abbrev rowsRef : Memref sig .tc .vmem S64x192x128 .f32 := Memref.whole cc0_scratch0

/-- What the region's scoped rest is: the scale rows at some contents, and the generator register. -/
theorem rest_eq (c : Dev nD) :
    (Pipeline.ΦA spec0 c : sProp 𝕄)
      = iprop(iprop((∃ d, owns (c : Thread nD τ) rowsRef fullShare d)) ∗ (∃ r, prngReg c r)) := by
  unfold Pipeline.ΦA; rw [scopedRest0_eq]; simp only [rowsRef, owns_whole]; try rfl

theorem pos0 : 0 < cfg0.N := by rw [show cfg0.N = 64 from N_0]; decide

/-- The activations the region is entered with. -/
def acts (c : Dev nD) : Vec F S192x8192 .bf16 := iblk m c 0 ⟨0, pos0⟩

/-- The activations' block is the same at every point. -/
theorem acts_eq (c : Dev nD) (t : Fin cfg0.N) : iblk m c 0 t = acts m c := rfl

/-- What the scale rows hold before each point: anything before the first, every group's scales afterwards. -/
def rowsAt (c : Dev nD) (t : ℕ) : sProp 𝕄 :=
  if t = 0 then iprop(∃ d, owns (c : Thread nD τ) rowsRef fullShare d) else owns (c : Thread nD τ) rowsRef fullShare (allRows (acts m c))

/-- The proof data of the pipeline: inputs at their blocks, the output block of each point, the codes and the scales of all the
    activations from the first point on, and the scale rows between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (allCodes (acts m c)) (iblk m c 1 t) (iblk m c 2 t) (allRows (acts m c)) (grid0.coords t)
    | ⟨4, _⟩ => allCodes (acts m c)
    | ⟨5, _⟩ => k0_pay19 (packed (acts m c) 64 le_rfl)
  Φ t := iprop(rowsAt m c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t
    = outBlock (allCodes (acts m c)) (iblk m c 1 t) (iblk m c 2 t) (allRows (acts m c)) (grid0.coords t) := by dsimp only [dats]
theorem after_4 (c : Dev nD) (t : Fin cfg0.N) : (dats m 0 c).after 4 t = allCodes (acts m c) := by dsimp only [dats]
theorem after_5 (c : Dev nD) (t : Fin cfg0.N) : (dats m 0 c).after 5 t = k0_pay19 (packed (acts m c) 64 le_rfl) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The codes' buffer is unwritten before the first point only. -/
theorem fresh_4 (n : ℕ) (hn : n < 64) : cfg0.fresh 4 n = decide (n = 0) := by
  induction n with
  | zero => rfl
  | succ n ih =>
    have hN : n < cfg0.N := by rw [show cfg0.N = 64 from N_0]; omega
    have hf : (cfg0.win 4).flush ⟨n, hN⟩ = false := Bool.eq_false_iff.mpr fun h => by
      have h' : n % 64 = 63 := (flush0_4 _).mp h
      omega
    rw [Pipeline.Cfg.fresh_succ cfg0 4 n hN, ih (by omega), hf]
    by_cases h0 : n = 0
    · subst h0
      have hi : cfg0.idle 4 (cfg0.grid.coords ⟨0, hN⟩) = false := by
        show (!(k0_cond1 (grid0.coords ⟨0, hN⟩) == 1#1)) = false
        rw [(first_iff ⟨0, hN⟩).mpr rfl]
        rfl
      rw [hi]; rfl
    · rw [decide_eq_false h0, decide_eq_false (Nat.succ_ne_zero n), Bool.and_false]; rfl

/-- After the first point the codes' buffer holds the codes. -/
theorem before_4 (c : Dev nD) (t : Fin cfg0.N) (ht : t.val ≠ 0) (d) : (dats m 0 c).before 4 t d = allCodes (acts m c) := by
  have hN : t.val < 64 := lt_of_lt_of_eq t.isLt (show cfg0.N = 64 from N_0)
  rw [(dats m 0 c).before_out_traj 4 rfl (fun _ _ => rfl) (fun t _ _ _ => by rw [after_4, after_4]) t.val t rfl d,
    fresh_4 _ hN, decide_eq_false ht, if_neg Bool.false_ne_true, after_4]

/-- Owning the codes' buffer at the codes is what the body owes at any point. -/
theorem leaves_4 (c : Dev nD) (t : Fin cfg0.N) :
    owns (c : Thread nD τ) ((cfg0.win 4).stage (cfg0.slots t 4)) fullShare (allCodes (acts m c)) ⊢ (dats m 0 c).leavesExact 4 t := by
  have hlive : t.val = 0 → cfg0.idle 4 (cfg0.grid.coords t) = false := fun ht => by
    show (!(k0_cond1 (grid0.coords t) == 1#1)) = false
    rw [(first_iff t).mpr ht]
    rfl
  rcases Bool.eq_false_or_eq_true (cfg0.idle 4 (cfg0.grid.coords t)) with hi | hi
  · rcases Bool.eq_false_or_eq_true ((cfg0.win 4).flush t) with hf | hf
    · unfold Dat.leavesExact
      rw [hi, hf, after_4]
    · have ht : t.val ≠ 0 := fun h => Bool.false_ne_true ((hlive h).symm.trans hi)
      rw [(dats m 0 c).leavesExact_idle 4 t hi hf]
      simp only [before_4 m c t ht]
      iintro H
      iexists (allCodes (acts m c))
      iexact H
  · unfold Dat.leavesExact
    rw [hi, after_4]

/-- The scales' buffer is unwritten before the first point only. -/
theorem fresh_5 (n : ℕ) (hn : n < 64) : cfg0.fresh 5 n = decide (n = 0) := by
  induction n with
  | zero => rfl
  | succ n ih =>
    have hN : n < cfg0.N := by rw [show cfg0.N = 64 from N_0]; omega
    have hf : (cfg0.win 5).flush ⟨n, hN⟩ = false := Bool.eq_false_iff.mpr fun h => by
      have h' : n % 64 = 63 := (flush0_5 _).mp h
      omega
    rw [Pipeline.Cfg.fresh_succ cfg0 5 n hN, ih (by omega), hf]
    by_cases h0 : n = 0
    · subst h0
      have hi : cfg0.idle 5 (cfg0.grid.coords ⟨0, hN⟩) = false := by
        show (!(k0_cond1 (grid0.coords ⟨0, hN⟩) == 1#1)) = false
        rw [(first_iff ⟨0, hN⟩).mpr rfl]
        rfl
      rw [hi]; rfl
    · rw [decide_eq_false h0, decide_eq_false (Nat.succ_ne_zero n), Bool.and_false]; rfl

/-- After the first point the scales' buffer holds the scales. -/
theorem before_5 (c : Dev nD) (t : Fin cfg0.N) (ht : t.val ≠ 0) (d) : (dats m 0 c).before 5 t d = k0_pay19 (packed (acts m c) 64 le_rfl) := by
  have hN : t.val < 64 := lt_of_lt_of_eq t.isLt (show cfg0.N = 64 from N_0)
  rw [(dats m 0 c).before_out_traj 5 rfl (fun _ _ => rfl) (fun t _ _ _ => by rw [after_5, after_5]) t.val t rfl d,
    fresh_5 _ hN, decide_eq_false ht, if_neg Bool.false_ne_true, after_5]

/-- Owning the scales' buffer at the scales is what the body owes at any point. -/
theorem leaves_5 (c : Dev nD) (t : Fin cfg0.N) :
    owns (c : Thread nD τ) ((cfg0.win 5).stage (cfg0.slots t 5)) fullShare (k0_pay19 (packed (acts m c) 64 le_rfl)) ⊢ (dats m 0 c).leavesExact 5 t := by
  have hlive : t.val = 0 → cfg0.idle 5 (cfg0.grid.coords t) = false := fun ht => by
    show (!(k0_cond1 (grid0.coords t) == 1#1)) = false
    rw [(first_iff t).mpr ht]
    rfl
  rcases Bool.eq_false_or_eq_true (cfg0.idle 5 (cfg0.grid.coords t)) with hi | hi
  · rcases Bool.eq_false_or_eq_true ((cfg0.win 5).flush t) with hf | hf
    · unfold Dat.leavesExact
      rw [hi, hf, after_5]
    · have ht : t.val ≠ 0 := fun h => Bool.false_ne_true ((hlive h).symm.trans hi)
      rw [(dats m 0 c).leavesExact_idle 5 t hi hf]
      simp only [before_5 m c t ht]
      iintro H
      iexists (k0_pay19 (packed (acts m c) 64 le_rfl))
      iexact H
  · unfold Dat.leavesExact
    rw [hi, after_5]

/-- Each window's current staging memref. -/
abbrev ref0 (t : Fin cfg0.N) : Memref sig .tc .vmem S192x8192 .bf16 := win0_0.stage (cfg0.slots t 0)
abbrev ref1 (t : Fin cfg0.N) : Memref sig .tc .vmem S8192x256 .fp8e4m3 := win0_1.stage (cfg0.slots t 1)
abbrev ref2 (t : Fin cfg0.N) : Memref sig .tc .smem S64x128 .f32 := win0_2.stage (cfg0.slots t 2)
abbrev ref3 (t : Fin cfg0.N) : Memref sig .tc .vmem S192x256 .bf16 := win0_3.stage (cfg0.slots t 3)
abbrev ref4 (t : Fin cfg0.N) : Memref sig .tc .vmem S192x8192 .fp8e4m3 := win0_4.stage (cfg0.slots t 4)
abbrev ref5 (t : Fin cfg0.N) : Memref sig .tc .vmem S192x64 .f32 := win0_5.stage (cfg0.slots t 5)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ref0 t) fullShare ((dats m 0 c).before 0 t d))
    ∗ (∃ d, owns (c : Thread nD τ) (ref1 t) fullShare ((dats m 0 c).before 1 t d))
    ∗ (∃ d, owns (c : Thread nD τ) (ref2 t) fullShare ((dats m 0 c).before 2 t d))
    ∗ (∃ d, owns (c : Thread nD τ) (ref3 t) fullShare ((dats m 0 c).before 3 t d))
    ∗ (∃ d, owns (c : Thread nD τ) (ref4 t) fullShare ((dats m 0 c).before 4 t d))
    ∗ (∃ d, owns (c : Thread nD τ) (ref5 t) fullShare ((dats m 0 c).before 5 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ref0 t) fullShare ((dats m 0 c).after 0 t)
    ∗ owns (c : Thread nD τ) (ref1 t) fullShare ((dats m 0 c).after 1 t)
    ∗ owns (c : Thread nD τ) (ref2 t) fullShare ((dats m 0 c).after 2 t)
    ∗ owns (c : Thread nD τ) (ref3 t) fullShare ((dats m 0 c).after 3 t)
    ∗ (dats m 0 c).leavesExact 4 t
    ∗ (dats m 0 c).leavesExact 5 t)

set_option maxHeartbeats 800000 in
/-- The body at any point takes what the pipeline gives it to what the proof data say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, acts_eq]
  rw [show (dats m 0 c).owesAt () t.succ = (dats m 0 c).owesAt () t.castSucc from rfl,
    show (dats m 0 c).Φ t.castSucc = iprop(rowsAt m c t.val ∗ (∃ r, prngReg c r)) from rfl,
    show (dats m 0 c).Φ t.succ = iprop(rowsAt m c (t.val + 1) ∗ (∃ r, prngReg c r)) from rfl]
  rw [show rowsAt m c (t.val + 1) = owns (c : Thread nD τ) rowsRef fullShare (allRows (acts m c)) from if_neg (Nat.succ_ne_zero _)]
  by_cases h0 : t.val = 0
  · rw [show rowsAt m c t.val = iprop(∃ d, owns (c : Thread nD τ) rowsRef fullShare d) from if_pos h0]
    iintro ⟨⟨HS, Hg⟩, Ho, ⟨%d0, H0⟩, ⟨%d1, H1⟩, ⟨%d2, H2⟩, ⟨%d3, H3⟩, ⟨%d4, H4⟩, ⟨%d5, H5⟩⟩
    iapply (triple_first c (grid0.coords t) _ _ _ _ _ _ _ _ _ _ _ _ _ _ ((first_iff t).mpr h0) (acts m c) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5
  · rw [show rowsAt m c t.val = owns (c : Thread nD τ) rowsRef fullShare (allRows (acts m c)) from if_neg h0]
    simp only [before_4 m c t h0, before_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (triple_later c (grid0.coords t) _ _ _ _ _ _ _ _ _ _ _ _ _ _ (fun h => h0 ((first_iff t).mp h)) (iblk m c 1 t) (iblk m c 2 t) (allCodes (acts m c)) (allRows (acts m c)) Set.univ _)
    isplitl [H1]; · iexact H1
    isplitl [H2]; · iexact H2
    isplitl [H3]; · iexists _; iexact H3
    isplitl [H4]; · iexact H4
    isplitl [HS]; · iexact HS
    iintro ⟨H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5

/-- The body the pipeline calls at a point is the kernel's. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends as the proof data say, and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop(rowsAt m c 0 ∗ (∃ r, prngReg c r)) from rfl,
        show rowsAt m c 0 = iprop(∃ d, owns (c : Thread nD τ) rowsRef fullShare d) from if_pos rfl]
      exact (rest_eq (F := F) c).le)
    (hout := fun c => by
      rw [show (dats m 0 c).Φ (Fin.last (cfgs 0).N) = iprop(rowsAt m c (cfgs 0).N ∗ (∃ r, prngReg c r)) from rfl,
        show rowsAt m c (cfgs 0).N = owns (c : Thread nD τ) rowsRef fullShare (allRows (acts m c)) from if_neg (Nat.pos_iff_ne_zero.mp pos0)]
      refine BIBase.Entails.trans ?_ (rest_eq (F := F) c).ge
      iintro ⟨HS, Hg⟩
      isplitl [HS]
      · iexists _; iexact HS
      iexact Hg)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Hand

end
-- ==== Proof.Scale.lean ====
module

public import Idealize.ShloMosaic.PureOps.Ideal.Laws
public import Idealize.ShloMosaic.Lib.IdealHost

/-! Powers of two: the kernel finds an exponent by a binary search over the powers written as words; the reference takes the floor of a
    logarithm. Over the extended reals both give one scale and one reciprocal scale. -/

@[expose] public section

noncomputable section

namespace Cert.Scale

open Idealize.ShloMosaic

/-- The number whose word has exponent field `n` and no fraction. -/
def pw (n : ℕ) : EReal := Ideal.ofBits .f32 (BitVec.ofNat 32 n <<< 23)

theorem pw_eq (n : ℕ) : pw n = Ideal.ofBits .f32 (BitVec.ofNat 32 n <<< 23) := rfl

theorem field_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- The word of exponent field zero is zero. -/
theorem pw_zero : pw 0 = 0 := by
  obtain ⟨h1, h2, h3⟩ := field_bits ⟨0, by decide⟩
  simp only at h1 h2 h3
  simp only [pw, Ideal.ofBits, Ideal.ieee]
  rw [h2, h3, h1]
  simp

/-- The word of exponent field 255 is infinity. -/
theorem pw_top : pw 255 = ⊤ := by
  obtain ⟨h1, h2, h3⟩ := field_bits ⟨255, by decide⟩
  simp only at h1 h2 h3
  simp only [pw, Ideal.ofBits, Ideal.ieee]
  rw [h2, h3, h1]
  simp

/-- The word of any other exponent field is a power of two. -/
theorem pw_mid (n : ℕ) (h1 : 1 ≤ n) (h2 : n ≤ 254) : pw n = (((2 : ℝ) ^ ((n : ℤ) - 127) : ℝ) : EReal) := by
  obtain ⟨e1, e2, e3⟩ := field_bits ⟨n, by omega⟩
  simp only at e1 e2 e3
  simp only [pw, Ideal.ofBits, Ideal.ieee]
  rw [e2, e3, e1, if_neg (by norm_num; omega), if_neg (by omega)]
  refine congrArg Real.toEReal ?_
  have : ((n : ℤ) - 127) = 23 + ((n : ℤ) - (2 ^ (8 - 1) - 1) - 23) := by norm_num
  rw [this, zpow_add₀ (by norm_num)]
  norm_num

/-- One step of the search: `s` more, if the power there is at most `v`. -/
def probe (v : EReal) (b s : BitVec 32) : BitVec 32 := if Ideal.ofBits .f32 ((b + s) <<< 23) ≤ v then b + s else b

/-- The search: the exponent field of `v`. -/
def field (v : EReal) : BitVec 32 :=
  probe v (probe v (probe v (probe v (probe v (probe v (probe v (probe v 0#32 128#32) 64#32) 32#32) 16#32) 8#32) 4#32) 2#32) 1#32

/-- The field lies in the `s` fields from `b` on. -/
def Within (v : EReal) (b : BitVec 32) (s : ℕ) : Prop :=
  ∃ n, b = BitVec.ofNat 32 n ∧ n + s ≤ 256 ∧ pw n ≤ v ∧ (n + s < 256 → v < pw (n + s))

/-- A step halves the fields in question. -/
theorem within_probe (v : EReal) (b : BitVec 32) (s : ℕ) (hs : 0 < s) (h : Within v b (s + s)) : Within v (probe v b (BitVec.ofNat 32 s)) s := by
  obtain ⟨n, rfl, hn, hl, hu⟩ := h
  have e : BitVec.ofNat 32 n + BitVec.ofNat 32 s = BitVec.ofNat 32 (n + s) := (BitVec.ofNat_add n s).symm
  unfold probe
  rw [e, ← pw_eq]
  by_cases hc : pw (n + s) ≤ v
  · rw [if_pos hc]
    exact ⟨n + s, rfl, by omega, hc, fun h => by rw [Nat.add_assoc]; exact hu (by omega)⟩
  · rw [if_neg hc]
    exact ⟨n, rfl, by omega, hl, fun _ => lt_of_not_ge hc⟩

/-- The search ends at the field whose power is at most `v` and whose next power is above `v`. -/
theorem field_spec (v : EReal) (hv : 0 ≤ v) : ∃ n, field v = BitVec.ofNat 32 n ∧ n ≤ 255 ∧ pw n ≤ v ∧ (n < 255 → v < pw (n + 1)) := by
  have h0 : Within v 0#32 256 := ⟨0, rfl, le_rfl, by rw [pw_zero]; exact hv, fun h => absurd h (by decide)⟩
  have h1 := within_probe v _ 128 (by decide) h0
  have h2 := within_probe v _ 64 (by decide) h1
  have h3 := within_probe v _ 32 (by decide) h2
  have h4 := within_probe v _ 16 (by decide) h3
  have h5 := within_probe v _ 8 (by decide) h4
  have h6 := within_probe v _ 4 (by decide) h5
  have h7 := within_probe v _ 2 (by decide) h6
  obtain ⟨n, e, hn, hl, hu⟩ := within_probe v _ 1 (by decide) h7
  exact ⟨n, e, by omega, hl, fun h => hu (by omega)⟩

/-- The kernel's exponent of a group of greatest magnitude `a` and ratio `v`. -/
def wordExp (a v : EReal) : BitVec 32 := if (field v = 0#32 ∨ field v = 255#32) ∨ a = 0 then 0#32 else field v - 126#32

/-- The kernel's power of two at the exponent word `e`. -/
def wordPow (e : BitVec 32) : EReal :=
  if (127#32 + e).sle 0#32 then 0 else if (255#32).sle (127#32 + e) then ⊤ else Ideal.ofBits .f32 ((127#32 + e) <<< 23)

/-- The reference's exponent. -/
def realExp (a v : EReal) : EReal :=
  if (a = 0 ∨ v < pw 1) ∨ v = ⊤ then 0 else Ideal.liftRound Int.floor (Ideal.div (Ideal.log v) (Ideal.log 2)) + 1

/-- The reference's power of two. -/
def realPow (e : EReal) : EReal := if ((127 : ℝ) : EReal) < e then ⊤ else if e < ((-126 : ℝ) : EReal) then 0 else Ideal.pow ((2 : ℝ) : EReal) e

/-- At one integer exponent the two powers are one. -/
theorem pow_eq (e : BitVec 32) (z : ℤ) (he : e.toInt = z) (hl : -200 ≤ z) (hu : z ≤ 200) : wordPow e = realPow ((z : ℝ) : EReal) := by
  have hw : (127#32 + e).toInt = 127 + z := by
    rw [BitVec.toInt_add, he]
    show (127 + z).bmod (2 ^ 32) = 127 + z
    rw [Int.bmod_def]; omega
  unfold wordPow realPow
  simp only [BitVec.sle_eq_decide, hw, decide_eq_true_eq]
  rw [show (0#32).toInt = 0 from rfl, show (255#32).toInt = 255 from rfl]
  by_cases c1 : 127 + z ≤ 0
  · have a1 : ¬ ((127 : ℝ) : EReal) < ((z : ℝ) : EReal) := by
      rw [EReal.coe_lt_coe_iff]; have : (z : ℝ) ≤ -127 := by exact_mod_cast (by omega : z ≤ -127)
      linarith
    have a2 : ((z : ℝ) : EReal) < ((-126 : ℝ) : EReal) := by
      rw [EReal.coe_lt_coe_iff]; have : (z : ℝ) ≤ -127 := by exact_mod_cast (by omega : z ≤ -127)
      linarith
    rw [if_pos c1, if_neg a1, if_pos a2]
  · rw [if_neg c1]
    by_cases c2 : 255 ≤ 127 + z
    · have a1 : ((127 : ℝ) : EReal) < ((z : ℝ) : EReal) := by
        rw [EReal.coe_lt_coe_iff]; have : (128 : ℝ) ≤ z := by exact_mod_cast (by omega : 128 ≤ z)
        linarith
      rw [if_pos c2, if_pos a1]
    · have a1 : ¬ ((127 : ℝ) : EReal) < ((z : ℝ) : EReal) := by
        rw [EReal.coe_lt_coe_iff]; have : (z : ℝ) ≤ 127 := by exact_mod_cast (by omega : z ≤ 127)
        linarith
      have a2 : ¬ ((z : ℝ) : EReal) < ((-126 : ℝ) : EReal) := by
        rw [EReal.coe_lt_coe_iff]; have : (-126 : ℝ) ≤ z := by exact_mod_cast (by omega : -126 ≤ z)
        linarith
      rw [if_neg c2, if_neg a1, if_neg a2]
      obtain ⟨n, hn⟩ : ∃ n : ℕ, (n : ℤ) = 127 + z := ⟨(127 + z).toNat, by omega⟩
      have hb : 127#32 + e = BitVec.ofNat 32 n := by
        apply BitVec.eq_of_toInt_eq
        rw [hw, BitVec.toInt_ofNat', Int.bmod_def]; omega
      rw [hb]
      refine (pw_mid n (by omega) (by omega)).trans ?_
      rw [show (n : ℤ) - 127 = z by omega]
      show _ = ((Real.rpow 2 (z : ℝ) : ℝ) : EReal)
      refine congrArg Real.toEReal ?_
      exact (Real.rpow_intCast 2 z).symm

/-- The floor of the binary logarithm of a number between consecutive powers of two. -/
theorem floor_log (r : ℝ) (z : ℤ) (hl : (2 : ℝ) ^ z ≤ r) (hu : r < (2 : ℝ) ^ (z + 1)) : ⌊Real.log r / Real.log 2⌋ = z := by
  have hp : (0 : ℝ) < 2 ^ z := zpow_pos (by norm_num) z
  have hr : 0 < r := lt_of_lt_of_le hp hl
  have h2 : 0 < Real.log 2 := Real.log_pos (by norm_num)
  rw [Int.floor_eq_iff, le_div_iff₀ h2, div_lt_iff₀ h2]
  have a1 : Real.log ((2 : ℝ) ^ z) = z * Real.log 2 := Real.log_zpow 2 z
  have a2 : Real.log ((2 : ℝ) ^ (z + 1)) = ((z + 1 : ℤ) : ℝ) * Real.log 2 := Real.log_zpow 2 (z + 1)
  push_cast at a2
  exact ⟨a1 ▸ Real.log_le_log hp hl, a2 ▸ Real.log_lt_log hr hu⟩

/-- The binary logarithm of a positive real, over the extended reals. -/
theorem log_ratio (r : ℝ) (hr : 0 < r) :
    Ideal.liftRound Int.floor (Ideal.div (Ideal.log (r : EReal)) (Ideal.log 2)) = ((⌊Real.log r / Real.log 2⌋ : ℝ) : EReal) := by
  have h2 : 0 < Real.log 2 := Real.log_pos (by norm_num)
  have e2 : Ideal.log 2 = (Real.log 2 : EReal) := by
    show Ideal.log ((2 : ℝ) : EReal) = _
    show (if (2 : ℝ) ≤ 0 then ⊥ else (Real.log 2 : EReal)) = _
    rw [if_neg (by norm_num)]
  have er : Ideal.log (r : EReal) = (Real.log r : EReal) := by
    show (if r ≤ 0 then ⊥ else (Real.log r : EReal)) = _
    rw [if_neg (not_le.mpr hr)]
  rw [e2, er]
  unfold Ideal.div
  rw [if_neg (by exact_mod_cast h2.ne'), ← EReal.coe_inv, ← EReal.coe_mul, ← div_eq_mul_inv]
  rfl

/-- The two exponents are one integer, or both are 128 or more. -/
theorem exp_eq (a v : EReal) (hv : 0 ≤ v) : ∃ z z' : ℤ, (wordExp a v).toInt = z ∧ realExp a v = ((z' : ℝ) : EReal) ∧ -200 ≤ z ∧ z ≤ 200
    ∧ (z' = z ∨ z = 128 ∧ 128 ≤ z') := by
  obtain ⟨n, en, hn, hl, hu⟩ := field_spec v hv
  have f0 : field v = 0#32 ↔ n = 0 := by
    rw [en]; constructor
    · intro h; have := congrArg BitVec.toNat h; simp only [BitVec.toNat_ofNat] at this; omega
    · rintro rfl; rfl
  have f255 : field v = 255#32 ↔ n = 255 := by
    rw [en]; constructor
    · intro h; have := congrArg BitVec.toNat h; simp only [BitVec.toNat_ofNat] at this; omega
    · rintro rfl; rfl
  have r0 : v < pw 1 ↔ n = 0 := by
    constructor
    · intro h
      by_contra hne
      have h1 : pw 1 ≤ pw n := by
        by_cases h255 : n = 255
        · rw [h255, pw_top]; exact le_top
        · rw [pw_mid 1 le_rfl (by decide), pw_mid n (by omega) (by omega), EReal.coe_le_coe_iff]
          exact zpow_le_zpow_right₀ (by norm_num) (by omega)
      exact absurd (h1.trans hl) (not_le.mpr h)
    · rintro rfl; exact hu (by decide)
  have r255 : v = ⊤ ↔ n = 255 := by
    constructor
    · rintro rfl
      by_contra hne
      exact absurd (hu (by omega)) (not_lt.mpr le_top)
    · rintro rfl; rw [pw_top] at hl; exact top_le_iff.mp hl
  unfold wordExp realExp
  by_cases hd : (n = 0 ∨ n = 255) ∨ a = 0
  · have hd' : (a = 0 ∨ n = 0) ∨ n = 255 := by
      rcases hd with (h | h) | h
      · exact .inl (.inr h)
      · exact .inr h
      · exact .inl (.inl h)
    refine ⟨0, 0, ?_, ?_, by decide, by decide, .inl rfl⟩
    · rw [if_pos (by rw [f0, f255]; exact hd)]; rfl
    · rw [if_pos (by rw [r0, r255]; exact hd')]; rw [Int.cast_zero, EReal.coe_zero]
  · have hn0 : n ≠ 0 := fun h => hd (.inl (.inl h))
    have hn255 : n ≠ 255 := fun h => hd (.inl (.inr h))
    have hd' : ¬ ((a = 0 ∨ n = 0) ∨ n = 255) := by
      rintro ((h | h) | h)
      · exact hd (.inr h)
      · exact hn0 h
      · exact hn255 h
    have ew : (field v - 126#32).toInt = (n : ℤ) - 126 := by
      rw [en, BitVec.toInt_sub, BitVec.toInt_ofNat']
      show ((n : ℤ).bmod (2 ^ 32) - 126).bmod (2 ^ 32) = _
      rw [Int.bmod_def, Int.bmod_def]; omega
    rw [if_neg (by rw [f0, f255]; exact hd), if_neg (by rw [r0, r255]; exact hd')]
    rw [pw_mid n (by omega) (by omega)] at hl
    have hu' := hu (by omega)
    have hne : v ≠ ⊤ := fun h => hn255 (r255.mp h)
    lift v to ℝ using ⟨hne, fun h => by rw [h] at hv; exact absurd hv (by simp)⟩
    rw [EReal.coe_le_coe_iff] at hl
    have hp : (0 : ℝ) < 2 ^ ((n : ℤ) - 127) := zpow_pos (by norm_num) _
    have hr := lt_of_lt_of_le hp hl
    rw [log_ratio v hr]
    refine ⟨(n : ℤ) - 126, ⌊Real.log v / Real.log 2⌋ + 1, ew, by rw [Int.cast_add, Int.cast_one, EReal.coe_add, EReal.coe_one], by omega, by omega, ?_⟩
    by_cases h254 : n = 254
    · right
      refine ⟨by omega, ?_⟩
      have : ((127 : ℤ)) ≤ ⌊Real.log v / Real.log 2⌋ := by
        rw [Int.le_floor, le_div_iff₀ (Real.log_pos (by norm_num))]
        have a1 : Real.log ((2 : ℝ) ^ ((n : ℤ) - 127)) = (((n : ℤ) - 127 : ℤ) : ℝ) * Real.log 2 := Real.log_zpow 2 _
        have := Real.log_le_log hp hl
        rw [a1] at this
        subst h254
        exact_mod_cast this
      omega
    · left
      rw [pw_mid (n + 1) (by omega) (by omega), EReal.coe_lt_coe_iff] at hu'
      rw [floor_log v ((n : ℤ) - 127) hl (by convert hu' using 2; push_cast; ring)]
      ring

/-- Above 127 every power is infinity. -/
theorem realPow_large (z : ℤ) (h : 128 ≤ z) : realPow ((z : ℝ) : EReal) = ⊤ := by
  unfold realPow
  rw [if_pos]
  rw [EReal.coe_lt_coe_iff]
  have : (128 : ℝ) ≤ z := by exact_mod_cast h
  linarith

/-- Below −126 every power is zero. -/
theorem realPow_small (z : ℤ) (h : z ≤ -128) : realPow ((z : ℝ) : EReal) = 0 := by
  have h' : (z : ℝ) ≤ -128 := by exact_mod_cast h
  unfold realPow
  rw [if_neg (by rw [EReal.coe_lt_coe_iff]; linarith), if_pos (by rw [EReal.coe_lt_coe_iff]; linarith)]

/-- The scales are one. -/
theorem scale_eq (a v : EReal) (hv : 0 ≤ v) : wordPow (wordExp a v) = realPow (realExp a v) := by
  obtain ⟨z, z', h1, h2, h3, h4, h5⟩ := exp_eq a v hv
  rw [h2, pow_eq _ z h1 h3 h4]
  rcases h5 with h | ⟨h, h'⟩
  · rw [h]
  · rw [realPow_large z (by omega), realPow_large z' h']

/-- The reciprocal scales are one. -/
theorem inverse_eq (a v : EReal) (hv : 0 ≤ v) : wordPow (0#32 - wordExp a v) = realPow (-(realExp a v)) := by
  obtain ⟨z, z', h1, h2, h3, h4, h5⟩ := exp_eq a v hv
  have e : (0#32 - wordExp a v).toInt = -z := by
    rw [BitVec.toInt_sub, h1]
    show (0 - z).bmod (2 ^ 32) = -z
    rw [Int.bmod_def]; omega
  rw [h2, ← EReal.coe_neg, ← Int.cast_neg, pow_eq _ (-z) e (by omega) (by omega)]
  rcases h5 with h | ⟨h, h'⟩
  · rw [h]
  · rw [realPow_small (-z) (by omega), realPow_small (-z') (by omega)]

end Cert.Scale

end
-- ==== Proof.Spec.lean ====
module

public import proofs.«01_k».proof.Proof.Scale

/-! What one group of 128 activations is quantised to, over the extended reals: its scale and its codes. -/

@[expose] public section

noncomputable section

namespace Cert.Scale

open Idealize.ShloMosaic

/-- The greatest magnitude of a group. -/
def top (f : Fin 128 → EReal) : EReal := (Finset.univ : Finset (Fin 128)).fold max ⊥ fun l => max (f l) (-(f l))

/-- The factor the greatest magnitude is multiplied by before its exponent is taken: the word of 1/448. -/
def unit : EReal := Ideal.ofBits .f32 0x3B124925#32

/-- The scale of a group. -/
def scaleOf (f : Fin 128 → EReal) : EReal := realPow (realExp (top f) (top f * unit))

/-- The reciprocal scale of a group. -/
def inverseOf (f : Fin 128 → EReal) : EReal := realPow (-(realExp (top f) (top f * unit)))

/-- The code of one activation `x` under the reciprocal scale `s`, clamped to the format's range. -/
def code (x s : EReal) : EReal := min (Ideal.ofBits .f32 0x43E00000#32) (max (Ideal.ofBits .f32 0xC3E00000#32) (x * s))

/-- One element of the product: over the groups, the product of the codes and a column of weight codes, times the two scales. -/
def productOf (f w : Fin 64 → Fin 128 → EReal) (s : Fin 64 → EReal) : EReal :=
  ∑ g : Fin 64, (∑ k : Fin 128, code (f g k) (inverseOf (f g)) * w g k) * (scaleOf (f g) * s g)

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem unit_nonneg : 0 ≤ unit := by
  unfold unit
  simp only [Ideal.ofBits, Ideal.ieee]
  rw [if_neg (by decide), if_neg (by decide), if_neg (by decide), ← EReal.coe_zero, EReal.coe_le_coe_iff]
  positivity

theorem top_nonneg (f : Fin 128 → EReal) : 0 ≤ top f := by
  unfold top
  rw [Finset.le_fold_max]
  refine .inr ⟨0, Finset.mem_univ _, ?_⟩
  rcases le_total 0 (f 0) with h | h
  · exact le_max_of_le_left h
  · exact le_max_of_le_right (by rw [EReal.le_neg, neg_zero]; exact h)

theorem ratio_nonneg (f : Fin 128 → EReal) : 0 ≤ top f * unit := mul_nonneg (top_nonneg f) unit_nonneg

/-- The kernel's scale of a group is the reference's. -/
theorem scaleOf_word (f : Fin 128 → EReal) : wordPow (wordExp (top f) (top f * unit)) = scaleOf f := scale_eq _ _ (ratio_nonneg f)

/-- The kernel's reciprocal scale of a group is the reference's. -/
theorem inverseOf_word (f : Fin 128 → EReal) : wordPow (0#32 - wordExp (top f) (top f * unit)) = inverseOf f := inverse_eq _ _ (ratio_nonneg f)

end Cert.Scale

end
-- ==== Proof.KernelQuant.lean ====
module

public import proofs.«01_k».proof.Proof.Quant
public import proofs.«01_k».proof.Proof.Spec
public import Idealize.ShloMosaic.Lib.ValueIdx

/-! What the kernel's quantisation of one group computes over the extended reals. -/

@[expose] public section

set_option maxRecDepth 16384

noncomputable section

namespace Cert.KernelIdeal.Hand

open Cert.KernelIdeal.Gen
open Idealize.ShloMosaic
open Idealize.ShloMosaic.ValueIdx (truncf_apply minimumf_apply maximumf_apply mulf_apply broadcast_apply)
open Cert.Scale

/-- One step of the search on a column of ratios. -/
def step (v : FVec Ideal S192x1 .f32) (b : IVec S192x1 32) (s : BitVec 32) : IVec S192x1 32 :=
  select (cmpf .oge v (bitcastToFloat .f32 (shli (addi b (broadcast S192x1 s)) (broadcast S192x1 23#32)))) (addi b (broadcast S192x1 s)) b

theorem pick (p : Prop) [Decidable p] {α : Type} (a b : α) : Scalar.select (BitVec.ofBool (decide p)) a b = if p then a else b := by
  by_cases h : p <;> simp [Scalar.select, h]

theorem step_apply (v : FVec Ideal S192x1 .f32) (b : IVec S192x1 32) (s : BitVec 32) (y : S192x1.Idx) : step v b s y = probe (v y) (b y) s := by
  unfold step probe
  exact pick (Ideal.ofBits .f32 ((b y + s) <<< 23) ≤ v y) (b y + s) (b y)

/-- The search finds the exponent field of the ratio. -/
theorem pay8_apply (x : Vec Ideal S192x128 .bf16) (y : S192x1.Idx) : k0_pay8 (k0_pay5 x) (k0_pay6 x) (k0_pay7 x) y = field (k0_pay5 x y) := by
  have e : k0_pay8 (k0_pay5 x) (k0_pay6 x) (k0_pay7 x)
      = step (k0_pay5 x) (step (k0_pay5 x) (step (k0_pay5 x) (step (k0_pay5 x) (step (k0_pay5 x) (step (k0_pay5 x) (step (k0_pay5 x)
          (step (k0_pay5 x) (broadcast S192x1 0#32) 128#32) 64#32) 32#32) 16#32) 8#32) 4#32) 2#32) 1#32 := rfl
  rw [e]
  simp only [step_apply]
  rfl

theorem pay3_apply (x : Vec Ideal S192x128 .bf16) (y : S192x128.Idx) : k0_pay3 x y = x y :=
  shapeCast_apply (s := S192x128) (t := S192x128) x shapeCasts_S192x128_S192x128 y y rfl

/-- The greatest magnitudes of a group. -/
theorem pay4_apply (x : Vec Ideal S192x128 .bf16) (t : Fin 192) : k0_pay4 x (ix2 t (0 : Fin 1)) = top fun l => x (ix2 t l) := by
  have e : k0_pay4 x = shapeCast S192x1 (multiReduction .maximumf [1] S192 (absf (k0_pay3 x)) 0xFF800000#32 reduces_S192x128_S192 (.inl rfl) rfl)
      shapeCasts_S192_S192x1 := rfl
  rw [e, shapeCast_apply _ _ _ (ix1 t) ?_]
  · refine (Ideal.multiReduction_maximumf_single _ _ _ _ _ _).trans ?_
    unfold top
    show Finset.univ.fold max (Ideal.ofBits .f32 0xFF800000#32) _ = _
    rw [ofBits_bot]
    refine Finset.fold_congr fun l _ => ?_
    have e : reduces_S192x128_S192.lift (ix1 t) l = (ix2 (n0 := 192) (n1 := 128) t l : S192x128.Idx) := by
      refine funext fun a => ?_
      match a with
      | 0 => rfl
      | 1 => rfl
    have e' : k0_pay3 x (reduces_S192x128_S192.lift (ix1 t) l) = x (ix2 (n0 := 192) (n1 := 128) t l) := (congrArg (k0_pay3 x) e).trans (pay3_apply x _)
    exact congrArg (fun z : EReal => max z (-z)) e'
  · rw [Shape.rowMajor_val_one, Shape.rowMajor_val_two]
    show t.val = t.val * 1 + 0
    omega

theorem pay5_apply (x : Vec Ideal S192x128 .bf16) (y : S192x1.Idx) : k0_pay5 x y = k0_pay4 x y * unit := rfl

/-- The exponent of a group. -/
theorem pay11_apply (a : FVec Ideal S192x1 .f32) (b : IVec S192x1 32) (y : S192x1.Idx) (v : EReal) (hb : b y = field v) :
    k0_pay11 a b (cmpi .eq b (broadcast S192x1 0#32)) (cmpi .eq b (broadcast S192x1 255#32)) y = wordExp (a y) v := by
  have e : k0_pay11 a b (cmpi .eq b (broadcast S192x1 0#32)) (cmpi .eq b (broadcast S192x1 255#32)) y
      = Scalar.select ((BitVec.ofBool (b y == 0#32) ||| BitVec.ofBool (b y == 255#32)) ||| BitVec.ofBool (decide (a y = Ideal.ofBits .f32 0x00000000#32)))
          0#32 (b y - 126#32) := rfl
  rw [e, Ideal.ofBits_zero_f32, hb]
  unfold wordExp
  rw [beq_eq_decide, beq_eq_decide]
  by_cases h1 : field v = 0#32
  · rw [if_pos (.inl (.inl h1)), decide_eq_true h1]
    cases decide (field v = 255#32) <;> cases decide (a y = 0) <;> rfl
  · rw [decide_eq_false h1]
    by_cases h2 : field v = 255#32
    · rw [if_pos (.inl (.inr h2)), decide_eq_true h2]
      cases decide (a y = 0) <;> rfl
    · rw [decide_eq_false h2]
      by_cases h3 : a y = 0
      · rw [if_pos (.inr h3), decide_eq_true h3]; rfl
      · rw [if_neg (by rintro ((h | h) | h) <;> contradiction), decide_eq_false h3]; rfl

theorem wordPow_apply (n : BitVec 32) :
    Scalar.select (BitVec.ofBool ((127#32 + n).sle 0#32)) (Ideal.ofBits .f32 0x00000000#32)
      (Scalar.select (BitVec.ofBool ((255#32).sle (127#32 + n))) (Ideal.ofBits .f32 0x7F800000#32) (Ideal.ofBits .f32 ((127#32 + n) <<< 23))) = wordPow n := by
  rw [Ideal.ofBits_zero_f32, ofBits_top]
  unfold wordPow
  cases (127#32 + n).sle 0#32 <;> cases (255#32).sle (127#32 + n) <;> rfl

/-- The scale of row `t` of a group. -/
theorem groupScale_apply (x : Vec Ideal S192x128 .bf16) (t : Fin 192) : groupScale x (ix2 t (0 : Fin 1)) = scaleOf fun l => x (ix2 t l) := by
  have h := pay11_apply (k0_pay4 x) (k0_pay8 (k0_pay5 x) (k0_pay6 x) (k0_pay7 x)) (ix2 t (0 : Fin 1)) _ (pay8_apply x _)
  rw [pay5_apply, pay4_apply] at h
  rw [← scaleOf_word, ← h, ← wordPow_apply]
  rfl

/-- The code at row `t` and lane `l` of a group. -/
theorem groupCodes_apply (x : Vec Ideal S192x128 .bf16) (t : Fin 192) (l : Fin 128) :
    groupCodes x (ix2 t l) = code (x (ix2 t l)) (inverseOf fun l => x (ix2 t l)) := by
  have h := pay11_apply (k0_pay4 x) (k0_pay8 (k0_pay5 x) (k0_pay6 x) (k0_pay7 x)) (ix2 t (0 : Fin 1)) _ (pay8_apply x _)
  rw [pay5_apply, pay4_apply] at h
  rw [← inverseOf_word, ← h, ← wordPow_apply]
  refine congrArg (min (Ideal.ofBits .f32 0x43E00000#32)) (congrArg (max (Ideal.ofBits .f32 0xC3E00000#32)) (congrArg₂ (· * ·) (pay3_apply x _) ?_))
  refine (broadcastTo_apply _ broadcasts_S192x1_S192x128 (ix2 t l) (ix2 t (0 : Fin 1)) fun a => ?_).trans rfl
  match a with
  | 0 => rfl
  | 1 => rfl

end Cert.KernelIdeal.Hand

end
-- ==== Proof.Arrays.lean ====
module

public import proofs.«01_k».proof.Proof.Launch
public import Idealize.ShloMosaic.Lib.Pipeline.ValueKit.Point
public import Idealize.ShloMosaic.Lib.StableHlo.RunRead

/-! What the kernel's result arrays hold after the run, as functions of its arguments. -/

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat Cfg Window)

variable {F : FTy → Type} [FloatOps F]

/-- The activations as a matrix of tokens. -/
def flat (x : Vec F S192x1x8192 .bf16) : Vec F S192x8192 .bf16 := shapeCast S192x8192 x shapeCasts_S192x1x8192_S192x8192

/-- The 256 columns of the weight codes that grid point `t` multiplies by. -/
def weightCols (w : Vec F S8192x16384 .fp8e4m3) (t : Fin 64) : Vec F S8192x256 .fp8e4m3 := fun y =>
  w (ix2 (n0 := 8192) (n1 := 16384) (y 0) ⟨256 * t.val + (y 1).val, by have h : (y 1).val < 256 := (y 1).isLt; omega⟩)

/-- The output block of grid point `p`. -/
def productBlock (X : Vec F S192x8192 .bf16) (w : Vec F S8192x16384 .fp8e4m3) (sw : Vec F S64x128 .f32) (p : Fin 64) : Vec F S192x256 .bf16 :=
  outBlock (allCodes X) (weightCols w p) sw (allRows X) (grid0.coords (Fin.cast (show 64 = cfg0.N from N_0.symm) p))

/-- The product array: each block of 256 columns is its grid point's output block. -/
def product (X : Vec F S192x8192 .bf16) (w : Vec F S8192x16384 .fp8e4m3) (sw : Vec F S64x128 .f32) : Vec F S192x16384 .bf16 := fun j =>
  productBlock X w sw ⟨(j 1).val / 256, by have h : (j 1).val < 16384 := (j 1).isLt; omega⟩
    (ix2 (n0 := 192) (n1 := 256) (j 0) ⟨(j 1).val % 256, Nat.mod_lt _ (by decide)⟩)

/-- The product array at column `256 p + l` is block `p` at column `l`. -/
theorem product_at (X : Vec F S192x8192 .bf16) (w : Vec F S8192x16384 .fp8e4m3) (sw : Vec F S64x128 .f32) (j : S192x16384.Idx) (p : Fin 64)
    (y : S192x256.Idx) (h0 : (j 0).val = (y 0).val) (h1 : (j 1).val = 256 * p.val + (y 1).val) : product X w sw j = productBlock X w sw p y := by
  have y1 : (y 1).val < 256 := (y 1).isLt
  have d : (⟨(j 1).val / 256, by have h : (j 1).val < 16384 := (j 1).isLt; omega⟩ : Fin 64) = p := Fin.ext (by show (j 1).val / 256 = p.val; omega)
  have e : (ix2 (n0 := 192) (n1 := 256) (j 0) ⟨(j 1).val % 256, Nat.mod_lt _ (by decide)⟩ : S192x256.Idx) = y :=
    (by
      refine (congrArg₂ (ix2 (n0 := 192) (n1 := 256)) (Fin.ext h0) (Fin.ext ?_)).trans (eq_ix2 y).symm
      show (j 1).val % 256 = (y 1).val; omega)
  unfold product
  rw [d, e]

variable (m : (ℓ : Loc nD τ sig) → Buf (Elt F) ℓ)

theorem index_0 : ∀ t : Fin cfg0.N, win0_0.index t = ![0, 0] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)

/-- The region finds the activations reshaped. -/
theorem V_flat (c : Dev nD) : V m c main_call0_v0 = flat (m ((c : Thread nD τ).loc main_arg0)) := by
  unfold V
  open StableHlo in after_reads_simp
  rfl

/-- The activations a point reads are all of them. -/
theorem acts_flat (c : Dev nD) : acts m c = flat (m ((c : Thread nD τ).loc main_arg0)) := by
  rw [← V_flat m c]
  funext y
  unfold acts
  blk_simp [iblk]
  refine congrArg (V m c main_call0_v0) ?_
  have e0 : win0_0.index ⟨0, pos0⟩ 0 = 0 := congrFun (index_0 ⟨0, pos0⟩) 0
  have e1 : win0_0.index ⟨0, pos0⟩ 1 = 0 := congrFun (index_0 ⟨0, pos0⟩) 1
  blk_ext
  · exact (congrArg (· * 192 + (y 0).val) e0).trans (by show 0 * 192 + (y 0).val = (y 0).val; omega)
  · exact (congrArg (· * 8192 + (y 1).val) e1).trans (by show 0 * 8192 + (y 1).val = (y 1).val; omega)

/-- The weight codes a point reads are its 256 columns. -/
theorem weights_at (c : Dev nD) (t : Fin cfg0.N) :
    iblk m c 1 t = weightCols (m ((c : Thread nD τ).loc main_arg1)) (Fin.cast (show cfg0.N = 64 from N_0) t) := by
  rw [← V_main_arg1 m c]
  funext y
  blk_simp [iblk]
  unfold weightCols
  refine congrArg (V m c main_arg1) ?_
  blk_ext [index_1]
  exact congrArg (· + (y 1).val) (Nat.mul_comm t.val 256)

/-- The weight scales a point reads are all of them. -/
theorem wscales_at (c : Dev nD) (t : Fin cfg0.N) : iblk m c 2 t = m ((c : Thread nD τ).loc main_arg2) := by
  rw [← V_main_arg2 m c]
  funext y
  blk_simp [iblk]
  refine congrArg (V m c main_arg2) ?_
  blk_ext [index_2]

/-- The product array after the run. -/
theorem final_3 (c : Dev nD) : (dats m 0 c).arrAt 3 cfg0.N
    = product (flat (m ((c : Thread nD τ).loc main_arg0))) (m ((c : Thread nD τ).loc main_arg1)) (m ((c : Thread nD τ).loc main_arg2)) := by
  refine (dats m 0 c).arrAt_eq_of_covers 3 _ (by decide +kernel) fun t hf y => ?_
  blk_simp
  rw [after_3, weights_at, wscales_at, acts_flat]
  refine (?_ : _ = productBlock _ _ _ (Fin.cast (show cfg0.N = 64 from N_0) t) y).trans (product_at _ _ _ _ _ y ?_ ?_).symm
  · rfl
  · blk_simp [index_3]; try omega
  · blk_simp [index_3]
    exact congrArg (· + (y 1).val) (Nat.mul_comm t.val 256)

/-- The codes array after the run. -/
theorem final_4 (c : Dev nD) : (dats m 0 c).arrAt 4 cfg0.N = allCodes (flat (m ((c : Thread nD τ).loc main_arg0))) := by
  refine (dats m 0 c).arrAt_eq_of_covers 4 _ (by decide +kernel) fun t hf y => ?_
  blk_simp
  rw [after_4, acts_flat]
  refine congrArg (allCodes (flat (m ((c : Thread nD τ).loc main_arg0)))) ?_
  blk_ext [index_4]

/-- The scales array after the run. -/
theorem final_5 (c : Dev nD) : (dats m 0 c).arrAt 5 cfg0.N = k0_pay19 (packed (flat (m ((c : Thread nD τ).loc main_arg0))) 64 le_rfl) := by
  refine (dats m 0 c).arrAt_eq_of_covers 5 _ (by decide +kernel) fun t hf y => ?_
  blk_simp
  rw [after_5, acts_flat]
  refine congrArg (k0_pay19 (packed (flat (m ((c : Thread nD τ).loc main_arg0))) 64 le_rfl)) ?_
  blk_ext [index_5]

end Cert.KernelIdeal.Hand

end
-- ==== Proof.KernelOut.lean ====
module

public import proofs.«01_k».proof.Proof.KernelQuant
public import proofs.«01_k».proof.Proof.Arrays

/-! The kernel's result arrays over the extended reals, element by element. -/

@[expose] public section

set_option maxRecDepth 16384

noncomputable section

namespace Cert.KernelIdeal.Hand

open Cert.KernelIdeal.Gen
open Idealize.ShloMosaic
open Cert.Scale

/-- The activations of token `t`, cut into groups. -/
def row (x : Vec Ideal S192x1x8192 .bf16) (t : Fin 192) (g : Fin 64) (l : Fin 128) : EReal :=
  x (ix3 (n0 := 192) (n1 := 1) (n2 := 8192) t 0 ⟨128 * g.val + l.val, by omega⟩)

/-- Column `n` of the weight codes, cut into groups. -/
def wcol (w : Vec Ideal S8192x16384 .fp8e4m3) (n : Fin 16384) (g : Fin 64) (k : Fin 128) : EReal :=
  w (ix2 (n0 := 8192) (n1 := 16384) ⟨128 * g.val + k.val, by omega⟩ n)

/-- The weight scales of the groups at column `n`. -/
def wscale (sw : Vec Ideal S64x128 .f32) (n : Fin 16384) (g : Fin 64) : EReal := sw (ix2 (n0 := 64) (n1 := 128) g ⟨n.val / 128, by omega⟩)

/-- The activations of a group are a row's. -/
theorem cols_flat (x : Vec Ideal S192x1x8192 .bf16) (g : Fin 64) (t : Fin 192) (l : Fin 128) :
    cols (flat x) g (ix2 (n0 := 192) (n1 := 128) t l) = row x t g l := by
  refine shapeCast_apply (s := S192x1x8192) (t := S192x8192) x shapeCasts_S192x1x8192_S192x8192 _ _ ?_
  rw [Shape.rowMajor_val_three, Shape.rowMajor_val_two]
  show (t.val * 1 + 0) * 8192 + (128 * g.val + l.val) = (0 + 1 * t.val) * 8192 + (128 * g.val + 1 * l.val)
  omega

/-- The scale of token `t` in group `g`. -/
theorem scale_at (x : Vec Ideal S192x1x8192 .bf16) (g : Fin 64) (t : Fin 192) :
    groupScale (cols (flat x) g) (ix2 (n0 := 192) (n1 := 1) t 0) = scaleOf (row x t g) :=
  (groupScale_apply _ t).trans (congrArg scaleOf (funext fun l => cols_flat x g t l))

/-- The code of token `t` at lane `l` of group `g`. -/
theorem codes_at (x : Vec Ideal S192x1x8192 .bf16) (j : S192x8192.Idx) (g : Fin 64) (t : Fin 192) (l : Fin 128)
    (h0 : (j 0).val = t.val) (h1 : (j 1).val = 128 * g.val + l.val) : allCodes (flat x) j = code (row x t g l) (inverseOf (row x t g)) := by
  rw [allCodes_at _ j g t l h0 h1]
  refine (groupCodes_apply _ t l).trans ?_
  rw [cols_flat]
  exact congrArg (fun f => code (row x t g l) (inverseOf f)) (funext fun l => cols_flat x g t l)

theorem pay16_apply (s : FVec Ideal S192x1 .f32) (t : Fin 192) (l : Fin 128) :
    k0_pay16 s (ix2 (n0 := 192) (n1 := 128) t l) = s (ix2 (n0 := 192) (n1 := 1) t 0) := by
  refine (broadcastTo_apply _ broadcasts_S192x1_S192x128 _ (ix2 (n0 := 192) (n1 := 1) t 0) fun a => ?_).trans
    (shapeCast_apply s shapeCasts_S192x1_S192x1 _ _ rfl)
  match a with
  | 0 => rfl
  | 1 => rfl

/-- After `n` groups, the lanes below `n` hold their groups' scales. -/
theorem packed_apply (x : Vec Ideal S192x1x8192 .bf16) (t : Fin 192) (l : Fin 128) : ∀ (n : ℕ) (hn : n ≤ 64) (hl : l.val < n),
    packed (flat x) n hn (ix2 (n0 := 192) (n1 := 128) t l) = scaleOf (row x t ⟨l.val, by omega⟩) := by
  intro n
  induction n with
  | zero => intro _ hl; exact absurd hl (Nat.not_lt_zero _)
  | succ n ih =>
    intro hn hl
    have e : packed (flat x) (n + 1) hn (ix2 (n0 := 192) (n1 := 128) t l)
        = Scalar.select (BitVec.ofBool (iota .tc S192x128 32 [1] iota_S192x128_d1_w32 (ix2 (n0 := 192) (n1 := 128) t l) == Scf.iv 0#32 1#32 n))
            (k0_pay16 (groupScale (cols (flat x) ⟨n, hn⟩)) (ix2 (n0 := 192) (n1 := 128) t l))
            (packed (flat x) n (Nat.le_of_succ_le hn) (ix2 (n0 := 192) (n1 := 128) t l)) := rfl
    have el : iota .tc S192x128 32 [1] iota_S192x128_d1_w32 (ix2 (n0 := 192) (n1 := 128) t l) = BitVec.ofNat 32 l.val := iota_single_apply _ _ _ _ _ _
    have ei : Scf.iv 0#32 1#32 n = BitVec.ofNat 32 n := by
      simp [Scf.iv]
    rw [e, el, ei, beq_eq_decide, pick]
    by_cases h : l.val = n
    · subst h
      rw [if_pos rfl, pay16_apply, scale_at]
    · rw [if_neg fun hh => h (by
        have := congrArg BitVec.toNat hh
        simp only [BitVec.toNat_ofNat] at this
        omega), ih _ (by omega)]

/-- The scales array. -/
theorem scales_at (x : Vec Ideal S192x1x8192 .bf16) (j : S192x64.Idx) (t : Fin 192) (g : Fin 64) (h0 : (j 0).val = t.val) (h1 : (j 1).val = g.val) :
    k0_pay19 (packed (flat x) 64 le_rfl) j = scaleOf (row x t g) := by
  refine (extractStridedSlice_apply _ _ slices_S192x128_o0_0_S192x64 j (ix2 (n0 := 192) (n1 := 128) t ⟨g.val, by omega⟩) fun a => ?_).trans
    (packed_apply x t ⟨g.val, by omega⟩ 64 le_rfl g.isLt)
  match a with
  | 0 => show t.val = 0 + (j 0).val; omega
  | 1 => show g.val = 0 + (j 1).val; omega

/-- The scale rows at token `t` of group `g`. -/
theorem rows_at (x : Vec Ideal S192x1x8192 .bf16) (g : Fin 64) (t : Fin 192) (l : Fin 128) :
    shapeCast S192x128 (rowGroup (allRows (flat x)) g) shapeCasts_S1x192x128_S192x128 (ix2 (n0 := 192) (n1 := 128) t l) = scaleOf (row x t g) := by
  refine (shapeCast_apply _ shapeCasts_S1x192x128_S192x128 _ (ix3 (n0 := 1) (n1 := 192) (n2 := 128) 0 t l) ?_).trans ?_
  · rw [Shape.rowMajor_val_three, Shape.rowMajor_val_two]
    show (0 * 192 + t.val) * 128 + l.val = t.val * 128 + l.val
    omega
  · refine (allRows_at (flat x) _ g t l ?_ ?_ ?_).trans ?_
    · show g.val + 1 * 0 = g.val; omega
    · show 0 + 1 * t.val = t.val; omega
    · show 0 + 1 * l.val = l.val; omega
    · refine (shapeCast_apply _ shapeCasts_S192x128_S1x192x128 _ (ix2 (n0 := 192) (n1 := 128) t l) ?_).trans ((pay16_apply _ t l).trans (scale_at x g t))
      rw [Shape.rowMajor_val_three, Shape.rowMajor_val_two]
      show t.val * 128 + l.val = (0 * 192 + t.val) * 128 + l.val
      omega

/-- The product of a group's codes and weights. -/
theorem dot_at (x : Vec Ideal S192x1x8192 .bf16) (w : Vec Ideal S8192x16384 .fp8e4m3) (p g : Fin 64) (t : Fin 192) (c : Fin 256) (n : Fin 16384)
    (hn : n.val = 256 * p.val + c.val) :
    partialDot (allCodes (flat x)) (weightCols w p) g (ix2 (n0 := 192) (n1 := 256) t c)
      = ∑ k : Fin 128, code (row x t g k) (inverseOf (row x t g)) * wcol w n g k := by
  unfold partialDot
  refine (Ideal.matmul_constant_zero_apply (φ₁ := .fp8e4m3) (φ₂ := .fp8e4m3) dot_S192x128_S128x256_S192x256_1_0_0_1_n_n none _ _ _).trans ?_
  refine (Equiv.sum_comp (ValueIdx.contrEquiv1 dot_S192x128_S128x256_S192x256_1_0_0_1_n_n 128 rfl rfl).symm _).symm.trans ?_
  refine Finset.sum_congr rfl fun k _ => congrArg₂ (· * ·) ?_ ?_
  · refine (shapeCast_apply _ shapeCasts_S192x128_S192x128 _ _ rfl).trans (codes_at x _ g t k ?_ ?_)
    · show 0 + 1 * t.val = t.val; omega
    · show 128 * g.val + 1 * k.val = 128 * g.val + k.val; omega
  · refine congrArg w (funext fun a => Fin.ext ?_)
    match a with
    | 0 => show 128 * g.val + 1 * k.val = 128 * g.val + k.val; omega
    | 1 => show 256 * p.val + (0 + 1 * c.val) = n.val; omega

/-- The weight scale of a grid point's column half. -/
theorem wscale_at (sw : Vec Ideal S64x128 .f32) (p g : Fin 64) (b : Fin 2) (l : Fin 128) (n : Fin 16384) (hn : n.val = 256 * p.val + (128 * b.val + l.val)) :
    weightScale sw (grid0.coords (Fin.cast (show 64 = cfg0.N from N_0.symm) p)) g b = wscale sw n g := by
  have hp : (grid0.coords (Fin.cast (show 64 = cfg0.N from N_0.symm) p) 0).val = p.val / 1 % 64 := Pipeline.Grid.coords_val _ 0 (by decide) rfl
  have h := swOff_eq (grid0.coords (Fin.cast (show 64 = cfg0.N from N_0.symm) p)) g b
  refine congrArg sw (funext fun a => Fin.ext ?_)
  match a with
  | 0 =>
    show swOff (grid0.coords (Fin.cast (show 64 = cfg0.N from N_0.symm) p)) g (BitVec.ofNat 32 b.val) 0 + 1 * 0 = g.val
    rw [h]; rfl
  | 1 =>
    show swOff (grid0.coords (Fin.cast (show 64 = cfg0.N from N_0.symm) p)) g (BitVec.ofNat 32 b.val) 1 + 1 * 0 = n.val / 128
    rw [h]
    show 2 * (grid0.coords (Fin.cast (show 64 = cfg0.N from N_0.symm) p) 0).val + b.val + 1 * 0 = n.val / 128
    rw [hp]
    omega

/-- The accumulator after `n` groups is the sum over those groups. -/
theorem acc_at (x : Vec Ideal S192x1x8192 .bf16) (w : Vec Ideal S8192x16384 .fp8e4m3) (sw : Vec Ideal S64x128 .f32) (p : Fin 64) (b : Fin 2)
    (off : Fin 2 → ℕ) (ho : off = ![0, 128 * b.val]) (hoff : S192x256.Slices off S192x128) (t : Fin 192) (l : Fin 128) (n : Fin 16384)
    (hn : n.val = 256 * p.val + (128 * b.val + l.val)) : ∀ (q : ℕ) (hq : q ≤ 64),
    acc (allCodes (flat x)) (weightCols w p) sw (allRows (flat x)) (grid0.coords (Fin.cast (show 64 = cfg0.N from N_0.symm) p)) b off hoff q hq
        (ix2 (n0 := 192) (n1 := 128) t l)
      = ∑ i : Fin q, (∑ k : Fin 128, code (row x t (Fin.castLE hq i) k) (inverseOf (row x t (Fin.castLE hq i))) * wcol w n (Fin.castLE hq i) k)
          * (scaleOf (row x t (Fin.castLE hq i)) * wscale sw n (Fin.castLE hq i)) := by
  intro q
  induction q with
  | zero => intro _; exact Ideal.ofBits_zero_f32.trans (by rw [Fin.sum_univ_zero])
  | succ q ih =>
    intro hq
    rw [Fin.sum_univ_castSucc]
    refine congrArg₂ (· + ·) (ih (Nat.le_of_succ_le hq)) (congrArg₂ (· * ·) ?_ (congrArg₂ (· * ·) (rows_at x ⟨q, hq⟩ t l) (wscale_at sw p ⟨q, hq⟩ b l n hn)))
    refine (extractStridedSlice_apply _ _ hoff _ (ix2 (n0 := 192) (n1 := 256) t ⟨128 * b.val + l.val, by omega⟩) fun a => ?_).trans
      (dot_at x w p ⟨q, hq⟩ t ⟨128 * b.val + l.val, by omega⟩ n hn)
    subst ho
    match a with
    | 0 => show t.val = 0 + t.val; omega
    | 1 => rfl

/-- The product array. -/
theorem product_eq (x : Vec Ideal S192x1x8192 .bf16) (w : Vec Ideal S8192x16384 .fp8e4m3) (sw : Vec Ideal S64x128 .f32) (j : S192x16384.Idx)
    (t : Fin 192) (n : Fin 16384) (h0 : (j 0).val = t.val) (h1 : (j 1).val = n.val) :
    product (flat x) w sw j = productOf (row x t) (wcol w n) (wscale sw n) := by
  have hn := n.isLt
  have hc : n.val % 256 < 256 := Nat.mod_lt _ (by decide)
  rw [product_at (flat x) w sw j ⟨n.val / 256, by omega⟩ (ix2 (n0 := 192) (n1 := 256) t ⟨n.val % 256, hc⟩) h0
    (by show (j 1).val = 256 * (n.val / 256) + n.val % 256; omega)]
  unfold productBlock
  by_cases hl : n.val % 256 < 128
  · rw [outBlock_left _ _ _ _ _ _ t ⟨n.val % 256, hl⟩ rfl rfl]
    exact acc_at x w sw ⟨n.val / 256, by omega⟩ 0 ![0, 0] rfl slices_S192x256_o0_0_S192x128 t ⟨n.val % 256, hl⟩ n
      (by show n.val = 256 * (n.val / 256) + (128 * 0 + n.val % 256); omega) 64 le_rfl
  · rw [outBlock_right _ _ _ _ _ _ t ⟨n.val % 256 - 128, by omega⟩ rfl (by show n.val % 256 = 128 + (n.val % 256 - 128); omega)]
    exact acc_at x w sw ⟨n.val / 256, by omega⟩ 1 ![0, 128] rfl slices_S192x256_o0_128_S192x128 t ⟨n.val % 256 - 128, by omega⟩ n
      (by show n.val = 256 * (n.val / 256) + (128 * 1 + (n.val % 256 - 128)); omega) 64 le_rfl

end Cert.KernelIdeal.Hand

end
-- ==== Proof.RefHost.lean ====
module

public import proofs.«01_k».proof.Proof.Gen.ReferenceIdeal.Value
public import Idealize.ShloMosaic.Lib.StableHlo.RunRead

/-! What the reference's host operations leave in the arrays that the rest of its program reads. -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- A constant at every token and group. -/
def fill (b : BitVec 32) : Vec F S192x64 .f32 := broadcastInDim S192x64 ![] bcast_S_S192x64 (constant S_ .f32 b)

/-- The activations cut into groups of 128. -/
def groups (x : Vec F S192x1x8192 .bf16) : Vec F S192x64x128 .f32 :=
  shapeCast S192x64x128 (extf .f32 x bitsLt_bf16_f32) shapeCasts_S192x1x8192_S192x64x128

/-- The greatest magnitude of each group. -/
def amax (x : Vec F S192x1x8192 .bf16) : Vec F S192x64 .f32 :=
  Host.reduce FloatOps.maximumf (Host.absf (groups x)) (constant S_ .f32 0xFF800000#32) reducesTo_S192x64x128_S192x64_d2 h_S_

/-- The number whose exponent the scale takes. -/
def ratio (x : Vec F S192x1x8192 .bf16) : Vec F S192x64 .f32 := mulf (amax x) (fill 0x3B124925#32)

/-- The exponent of a group, zero at a degenerate one. -/
def expo (x : Vec F S192x1x8192 .bf16) : Vec F S192x64 .f32 :=
  select (ori (ori (cmpf .oeq (amax x) (fill 0x00000000#32)) (cmpf .olt (ratio x) (fill 0x00800000#32)))
      (cmpf .oeq (ratio x) (fill 0x7F800000#32)))
    (fill 0x00000000#32)
    (addf (Host.floor (Host.divf (Host.log (ratio x))
      (broadcastInDim S192x64 ![] bcast_S_S192x64 (id (Host.log (constant S_ .f32 0x40000000#32)))))) (fill 0x3F800000#32))

/-- Two to an exponent: infinity above 127, zero below -126. -/
def power (e : Vec F S192x64 .f32) : Vec F S192x64 .f32 :=
  select (cmpf .ogt e (fill 0x42FE0000#32)) (fill 0x7F800000#32)
    (select (cmpf .olt e (fill 0xC2FC0000#32)) (fill 0x00000000#32) (Host.powf (fill 0x40000000#32) e))

/-- The scale of each group. -/
def scales (x : Vec F S192x1x8192 .bf16) : Vec F S192x64 .f32 := power (expo x)

/-- The reciprocal scale of each group. -/
def inverses (x : Vec F S192x1x8192 .bf16) : Vec F S192x64 .f32 := power (Host.negf (expo x))

/-- The product of the two scales, laid out as the blocked product is. -/
def combined (x : Vec F S192x1x8192 .bf16) (s : Vec F S64x128 .f32) : Vec F S64x192x16384 .f32 :=
  shapeCast S64x192x16384
    (broadcastInDim S64x192x128x128 ![0, 1, 2, 3] bcast_S64x192x128x1_S64x192x128x128_0_1_2_3
      (mulf (broadcastInDim S64x192x128x1 ![0, 1, 2, 3] bcast_S64x192x1x1_S64x192x128x1_0_1_2_3
          (broadcastInDim S64x192x1x1 ![0, 1] bcast_S64x192_S64x192x1x1_0_1
            (transpose S64x192 [1, 0] (scales x) transposes_S192x64_S64x192_1_0)))
        (broadcastInDim S64x192x128x1 ![0, 1, 2, 3] bcast_S64x1x128x1_S64x192x128x1_0_1_2_3
          (broadcastInDim S64x1x128x1 ![0, 2] bcast_S64x128_S64x1x128x1_0_2 s))))
    shapeCasts_S64x192x128x128_S64x192x16384

/-- The reciprocal scales with a lane axis. -/
def inverses3 (x : Vec F S192x1x8192 .bf16) : Vec F S192x64x1 .f32 :=
  broadcastInDim S192x64x1 ![0, 1] bcast_S192x64_S192x64x1_0_1 (inverses x)

/-- The weight codes cut into groups of 128 rows. -/
def weights3 (w : Vec F S8192x16384 .fp8e4m3) : Vec F S64x128x16384 .fp8e4m3 :=
  shapeCast S64x128x16384 w shapeCasts_S8192x16384_S64x128x16384

variable (m : (ℓ : Loc nD τ sig) → Buf (Elt F) ℓ)

/-- The host operations as one line. -/
theorem line_eq : List.flatten [hostOps0 (F := F), hostOps0_1, hostOps0_2, hostOps0_3, hostOps0_4, hostOps0_5, hostOps0_6, hostOps0_7,
      hostOps0_8, hostOps0_9, hostOps0_10]
    = hostOps0 ++ (hostOps0_1 ++ (hostOps0_2 ++ (hostOps0_3 ++ (hostOps0_4 ++ (hostOps0_5 ++ (hostOps0_6 ++ (hostOps0_7 ++
      (hostOps0_8 ++ (hostOps0_9 ++ hostOps0_10))))))))) := rfl

set_option maxHeartbeats 4000000 in
/-- The grouped activations as the region finds them. -/
theorem V_groups (c : Dev nD) : V m c main_v1 = groups (m ((c : Thread nD τ).loc main_arg0)) := by
  unfold V; rw [line_eq]
  open StableHlo in after_reads_simp
  rfl

set_option maxHeartbeats 4000000 in
/-- The scales after the host operations. -/
theorem V_scales (c : Dev nD) : V m c main_v30 = scales (m ((c : Thread nD τ).loc main_arg0)) := by
  unfold V; rw [line_eq]
  open StableHlo in after_reads_simp
  rfl

set_option maxHeartbeats 4000000 in
/-- The reciprocal scales as the region finds them. -/
theorem V_inverses (c : Dev nD) : V m c main_v48 = inverses3 (m ((c : Thread nD τ).loc main_arg0)) := by
  unfold V; rw [line_eq]
  open StableHlo in after_reads_simp
  rfl

set_option maxHeartbeats 4000000 in
/-- The weight codes as the region finds them. -/
theorem V_weights (c : Dev nD) : V m c main_v49 = weights3 (m ((c : Thread nD τ).loc main_arg1)) := by
  unfold V; rw [line_eq]
  open StableHlo in after_reads_simp
  rfl

set_option maxHeartbeats 4000000 in
/-- The products of scales as the region finds them. -/
theorem V_combined (c : Dev nD) : V m c main_v47 = combined (m ((c : Thread nD τ).loc main_arg0)) (m ((c : Thread nD τ).loc main_arg2)) := by
  unfold V; rw [line_eq]
  open StableHlo in after_reads_simp
  rfl

end Cert.ReferenceIdeal.Hand

end
-- ==== Proof.RefArrays.lean ====
module

public import proofs.«01_k».proof.Proof.RefHost
public import proofs.«01_k».proof.Proof.Gen.ReferenceIdeal.Value
public import Idealize.ShloMosaic.Lib.Pipeline.ValueKit.Point

/-! What the reference's result arrays hold after the run, as functions of its arguments. -/

@[expose] public section

set_option maxRecDepth 16384

noncomputable section

namespace Cert.ReferenceIdeal.Hand

open Cert.ReferenceIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

/-! The grid has one point, and every window's block there is its whole array. -/

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)

/-- The body is given the groups of activations, their reciprocal scales, the weight codes and the products of scales, whole. -/
theorem block_0 (c : Dev nD) (t : Fin cfg0.N) : iblk m c 0 t = groups (m ((c : Thread nD τ).loc main_arg0)) := by
  rw [← V_groups m c]
  funext y
  blk_simp [iblk]
  refine congrArg (V m c main_v1) ?_
  blk_ext [index_0]

theorem block_1 (c : Dev nD) (t : Fin cfg0.N) : iblk m c 1 t = inverses3 (m ((c : Thread nD τ).loc main_arg0)) := by
  rw [← V_inverses m c]
  funext y
  blk_simp [iblk]
  refine congrArg (V m c main_v48) ?_
  blk_ext [index_1]

theorem block_2 (c : Dev nD) (t : Fin cfg0.N) : iblk m c 2 t = weights3 (m ((c : Thread nD τ).loc main_arg1)) := by
  rw [← V_weights m c]
  funext y
  blk_simp [iblk]
  refine congrArg (V m c main_v49) ?_
  blk_ext [index_2]

theorem block_3 (c : Dev nD) (t : Fin cfg0.N) :
    iblk m c 3 t = combined (m ((c : Thread nD τ).loc main_arg0)) (m ((c : Thread nD τ).loc main_arg2)) := by
  rw [← V_combined m c]
  funext y
  blk_simp [iblk]
  refine congrArg (V m c main_v47) ?_
  blk_ext [index_3]

/-- A load of a whole block is the block. -/
theorem ld_0 (x : Vec F S192x64x128 .f32) : View.ld x r0_0 = x := View.ld_unit_lit _ x (by decide)
theorem ld_1 (x : Vec F S192x64x1 .f32) : View.ld x r0_1 = x := View.ld_unit_lit _ x (by decide)
theorem ld_3 (x : Vec F S64x128x16384 .fp8e4m3) : View.ld x r0_3 = x := View.ld_unit_lit _ x (by decide)
theorem ld_4 (x : Vec F S64x192x16384 .f32) : View.ld x r0_4 = x := View.ld_unit_lit _ x (by decide)

/-- What the body leaves in the product's block. -/
theorem out_4 (x0 : Vec F S192x64x128 .f32) (x1 : Vec F S192x64x1 .f32) (x2 : Vec F S64x128x16384 .fp8e4m3) (x3 : Vec F S64x192x16384 .f32) :
    out0_4 x0 x1 x2 x3 = k0_pay3 x0 x1 x2 x3 := by
  funext y
  unfold out0_4
  rw [ld_0, ld_1, ld_3, ld_4]
  refine View.canon_apply_of_pieces (k0_pay3 x0 x1 x2 x3) _ ?_ y (cover0_4 _ y)
  intro pc hpc
  rcases List.mem_cons.mp hpc with rfl | hpc
  · intro x
    refine congrArg (k0_pay3 x0 x1 x2 x3) (funext fun a => Fin.ext ?_)
    match a with
    | 0 => show (x 0).val = 0 + 1 * (x 0).val; omega
    | 1 => show (x 1).val = 0 + 1 * (x 1).val; omega
  nomatch hpc

/-- What the body leaves in the codes' block. -/
theorem out_5 (x0 : Vec F S192x64x128 .f32) (x1 : Vec F S192x64x1 .f32) (x2 : Vec F S64x128x16384 .fp8e4m3) (x3 : Vec F S64x192x16384 .f32) :
    out0_5 x0 x1 x2 x3 = k0_pay2 x0 x1 := by
  funext y
  unfold out0_5
  rw [ld_0, ld_1]
  refine View.canon_apply_of_pieces (k0_pay2 x0 x1) _ ?_ y (cover0_5 _ y)
  intro pc hpc
  rcases List.mem_cons.mp hpc with rfl | hpc
  · intro x
    refine congrArg (k0_pay2 x0 x1) (funext fun a => Fin.ext ?_)
    match a with
    | 0 => show (x 0).val = 0 + 1 * (x 0).val; omega
    | 1 => show (x 1).val = 0 + 1 * (x 1).val; omega
  nomatch hpc

/-- The product array after the run. -/
theorem final_4 (c : Dev nD) : (dats m 0 c).arrAt 4 cfg0.N
    = k0_pay3 (groups (m ((c : Thread nD τ).loc main_arg0))) (inverses3 (m ((c : Thread nD τ).loc main_arg0)))
        (weights3 (m ((c : Thread nD τ).loc main_arg1))) (combined (m ((c : Thread nD τ).loc main_arg0)) (m ((c : Thread nD τ).loc main_arg2))) := by
  refine (dats m 0 c).arrAt_eq_of_covers 4 _ (by decide +kernel) fun t hf y => ?_
  blk_simp
  rw [after0_4, block_0, block_1, block_2, block_3, out_4]
  refine congrArg (k0_pay3 _ _ _ _) ?_
  blk_ext [index_4]

/-- The codes array after the run. -/
theorem final_5 (c : Dev nD) : (dats m 0 c).arrAt 5 cfg0.N
    = k0_pay2 (groups (m ((c : Thread nD τ).loc main_arg0))) (inverses3 (m ((c : Thread nD τ).loc main_arg0))) := by
  refine (dats m 0 c).arrAt_eq_of_covers 5 _ (by decide +kernel) fun t hf y => ?_
  blk_simp
  rw [after0_5, block_0, block_1, block_2, block_3, out_5]
  refine congrArg (k0_pay2 _ _) ?_
  blk_ext [index_5]

end Cert.ReferenceIdeal.Hand

end
-- ==== Proof.RefOut.lean ====
module

public import proofs.«01_k».proof.Proof.RefHost
public import proofs.«01_k».proof.Proof.Spec
public import Idealize.ShloMosaic.Lib.Pipeline.Value
public import Idealize.ShloMosaic.Lib.ValueIdx
public import Idealize.ShloMosaic.Lib.Pointwise.Index

/-! The reference's result arrays over the extended reals, element by element. -/

@[expose] public section

set_option maxRecDepth 16384

noncomputable section

namespace Cert.ReferenceIdeal.Hand

open Cert.ReferenceIdeal.Gen
open Idealize.ShloMosaic
open Cert.Scale

/-- The activations of token `t`, cut into groups. -/
def row (x : Vec Ideal S192x1x8192 .bf16) (t : Fin 192) (g : Fin 64) (l : Fin 128) : EReal :=
  x (ix3 (n0 := 192) (n1 := 1) (n2 := 8192) t 0 ⟨128 * g.val + l.val, by omega⟩)

/-- Column `n` of the weight codes, cut into groups. -/
def wcol (w : Vec Ideal S8192x16384 .fp8e4m3) (n : Fin 16384) (g : Fin 64) (k : Fin 128) : EReal :=
  w (ix2 (n0 := 8192) (n1 := 16384) ⟨128 * g.val + k.val, by omega⟩ n)

/-- The weight scales of the groups at column `n`. -/
def wscale (sw : Vec Ideal S64x128 .f32) (n : Fin 16384) (g : Fin 64) : EReal := sw (ix2 (n0 := 64) (n1 := 128) g ⟨n.val / 128, by omega⟩)

/-- The activations cut into groups, one element. -/
theorem groups_apply (x : Vec Ideal S192x1x8192 .bf16) (t : Fin 192) (g : Fin 64) (l : Fin 128) :
    groups x (ix3 (n0 := 192) (n1 := 64) (n2 := 128) t g l) = row x t g l := by
  refine (shapeCast_apply _ shapeCasts_S192x1x8192_S192x64x128 _ (ix3 (n0 := 192) (n1 := 1) (n2 := 8192) t 0 ⟨128 * g.val + l.val, by omega⟩) ?_).trans rfl
  rw [Shape.rowMajor_val_three, Shape.rowMajor_val_three]
  show (t.val * 1 + 0) * 8192 + (128 * g.val + l.val) = (t.val * 64 + g.val) * 128 + l.val
  omega

/-- The greatest magnitudes are taken over the last axis. -/
theorem reduces_groups : S192x64x128.Reduces [2] S192x64 := by decide

/-- The greatest magnitude of a group. -/
theorem amax_apply (x : Vec Ideal S192x1x8192 .bf16) (t : Fin 192) (g : Fin 64) : amax x (ix2 (n0 := 192) (n1 := 64) t g) = top (row x t g) := by
  unfold amax
  refine (Host.reduce_eq_fold_single _ _ _ _ reduces_groups _ _).trans ?_
  unfold top
  show Finset.univ.fold max (Ideal.ofBits .f32 0xFF800000#32) _ = _
  rw [ofBits_bot]
  refine Finset.fold_congr fun l _ => ?_
  have e : reduces_groups.lift (ix2 (n0 := 192) (n1 := 64) t g) l = (ix3 (n0 := 192) (n1 := 64) (n2 := 128) t g l : S192x64x128.Idx) := by
    refine funext fun a => ?_
    match a with
    | 0 => rfl
    | 1 => rfl
    | 2 => rfl
  exact congrArg (fun z : EReal => max z (-z)) ((congrArg (groups x) e).trans (groups_apply x t g l))

/-- A filled vector holds its constant everywhere. -/
theorem fill_apply (b : BitVec 32) (y : S192x64.Idx) : fill (F := Ideal) b y = Ideal.ofBits .f32 b := rfl

/-- The word of 127. -/
theorem bits_127 : Ideal.ofBits .f32 0x42FE0000#32 = ((127 : ℝ) : EReal) := by
  simp only [Ideal.ofBits, Ideal.ieee]
  rw [if_neg (by decide), if_neg (by decide), if_neg (by decide)]
  refine congrArg Real.toEReal ?_
  rw [show (BitVec.extractLsb' 0 23 0x42FE0000#32).toNat = 8257536 from rfl, show (BitVec.extractLsb' 23 8 0x42FE0000#32).toNat = 133 from rfl]
  norm_num

/-- The word of -126. -/
theorem bits_126 : Ideal.ofBits .f32 0xC2FC0000#32 = ((-126 : ℝ) : EReal) := by
  simp only [Ideal.ofBits, Ideal.ieee]
  rw [if_neg (by decide), if_neg (by decide), if_pos (by decide)]
  refine congrArg Real.toEReal ?_
  rw [show (BitVec.extractLsb' 0 23 0xC2FC0000#32).toNat = 8126464 from rfl, show (BitVec.extractLsb' 23 8 0xC2FC0000#32).toNat = 133 from rfl]
  norm_num

/-- The word of 2. -/
theorem bits_two : Ideal.ofBits .f32 0x40000000#32 = ((2 : ℝ) : EReal) := by
  simp only [Ideal.ofBits, Ideal.ieee]
  rw [if_neg (by decide), if_neg (by decide), if_neg (by decide)]
  refine congrArg Real.toEReal ?_
  rw [show (BitVec.extractLsb' 0 23 0x40000000#32).toNat = 0 from rfl, show (BitVec.extractLsb' 23 8 0x40000000#32).toNat = 128 from rfl]
  norm_num

/-- The word of the least normal value. -/
theorem bits_least : Ideal.ofBits .f32 0x00800000#32 = pw 1 := rfl

/-- A select on a decided bit is a choice. -/
theorem pick (p : Prop) [Decidable p] {α : Type} (a b : α) : Scalar.select (BitVec.ofBool (decide p)) a b = if p then a else b := by
  by_cases h : p <;> simp [Scalar.select, h]

/-- The exponent's selection, read at one group, of any greatest magnitudes and ratios. -/
theorem expo_form (a r : Vec Ideal S192x64 .f32) (y : S192x64.Idx) :
    select (ori (ori (cmpf (F := Ideal) (φ := .f32) .oeq a (fill (F := Ideal) 0x00000000#32)) (cmpf (F := Ideal) (φ := .f32) .olt r (fill (F := Ideal) 0x00800000#32))) (cmpf (F := Ideal) (φ := .f32) .oeq r (fill (F := Ideal) 0x7F800000#32)))
        (fill (F := Ideal) 0x00000000#32)
        (addf (Host.floor (Host.divf (Host.log (F := Ideal) (φ := .f32) r) (broadcastInDim S192x64 ![] bcast_S_S192x64 (id (Host.log (F := Ideal) (φ := .f32) (constant (F := Ideal) S_ .f32 0x40000000#32))))))
          (fill (F := Ideal) 0x3F800000#32)) y
      = Scalar.select ((BitVec.ofBool (decide (a y = Ideal.ofBits .f32 0x00000000#32))
            ||| BitVec.ofBool (decide (r y < Ideal.ofBits .f32 0x00800000#32)))
            ||| BitVec.ofBool (decide (r y = Ideal.ofBits .f32 0x7F800000#32)))
          (Ideal.ofBits .f32 0x00000000#32)
          (Ideal.liftRound Int.floor (Ideal.div (Ideal.log (r y)) (Ideal.log (Ideal.ofBits .f32 0x40000000#32)))
            + Ideal.ofBits .f32 0x3F800000#32) := rfl

/-- A product of two vectors, one element. -/
theorem mul_form (a b : Vec Ideal S192x64 .f32) (y : S192x64.Idx) : mulf (F := Ideal) (φ := .f32) a b y = (a y : EReal) * b y := rfl

/-- A group's greatest magnitude over the largest code. -/
theorem ratio_apply (x : Vec Ideal S192x1x8192 .bf16) (y : S192x64.Idx) : ratio x y = amax x y * unit := by
  unfold ratio
  generalize amax x = a
  exact mul_form a (fill 0x3B124925#32) y

/-- The exponent of a group. -/
theorem expo_apply (x : Vec Ideal S192x1x8192 .bf16) (t : Fin 192) (g : Fin 64) :
    expo x (ix2 (n0 := 192) (n1 := 64) t g) = realExp (top (row x t g)) (top (row x t g) * unit) := by
  refine (expo_form (amax x) (ratio x) (ix2 (n0 := 192) (n1 := 64) t g)).trans ?_
  rw [ratio_apply, amax_apply, Ideal.ofBits_zero_f32, bits_least, ofBits_top, bits_two, Ideal.ofBits_one_f32]
  unfold realExp
  by_cases h1 : top (row x t g) = 0
  · rw [if_pos (.inl (.inl h1)), decide_eq_true h1]
    cases decide (top (row x t g) * unit < pw 1) <;> cases decide (top (row x t g) * unit = ⊤) <;> rfl
  · rw [decide_eq_false h1]
    by_cases h2 : top (row x t g) * unit < pw 1
    · rw [if_pos (.inl (.inr h2)), decide_eq_true h2]
      cases decide (top (row x t g) * unit = ⊤) <;> rfl
    · rw [decide_eq_false h2]
      by_cases h3 : top (row x t g) * unit = ⊤
      · rw [if_pos (.inr h3), decide_eq_true h3]; rfl
      · rw [if_neg (by rintro ((h | h) | h) <;> contradiction), decide_eq_false h3]; rfl

/-- Two to an exponent. -/
theorem power_apply (e : Vec Ideal S192x64 .f32) (y : S192x64.Idx) : power e y = realPow (e y) := by
  have h : power e y = Scalar.select (BitVec.ofBool (decide (Ideal.ofBits .f32 0x42FE0000#32 < e y))) (Ideal.ofBits .f32 0x7F800000#32)
      (Scalar.select (BitVec.ofBool (decide (e y < Ideal.ofBits .f32 0xC2FC0000#32))) (Ideal.ofBits .f32 0x00000000#32)
        (Ideal.pow (Ideal.ofBits .f32 0x40000000#32) (e y))) := rfl
  rw [h, pick, pick, bits_127, bits_126, bits_two, ofBits_top, Ideal.ofBits_zero_f32]
  rfl

/-- A scale is two to the exponent. -/
theorem scales_form (x : Vec Ideal S192x1x8192 .bf16) (y : S192x64.Idx) : scales x y = realPow (expo x y) := by
  unfold scales
  exact power_apply (expo x) y

/-- A negated vector, one element. -/
theorem neg_form (e : Vec Ideal S192x64 .f32) (y : S192x64.Idx) : Host.negf (F := Ideal) (φ := .f32) e y = -(e y : EReal) := rfl

/-- A reciprocal scale is two to the negated exponent. -/
theorem inverses_form (x : Vec Ideal S192x1x8192 .bf16) (y : S192x64.Idx) : inverses x y = realPow (-(expo x y : EReal)) := by
  unfold inverses
  generalize expo x = e
  rw [power_apply, neg_form]

/-- What the scale of a group stands for. -/
theorem scaleOf_form (f : Fin 128 → EReal) : scaleOf f = realPow (realExp (top f) (top f * unit)) := by unfold scaleOf; rfl

/-- What the reciprocal scale of a group stands for. -/
theorem inverseOf_form (f : Fin 128 → EReal) : inverseOf f = realPow (-(realExp (top f) (top f * unit))) := by unfold inverseOf; rfl

/-- The scale of a group. -/
theorem scales_apply (x : Vec Ideal S192x1x8192 .bf16) (t : Fin 192) (g : Fin 64) :
    scales x (ix2 (n0 := 192) (n1 := 64) t g) = scaleOf (row x t g) := by
  rw [scales_form, expo_apply, scaleOf_form]

/-- The reciprocal scale of a group. -/
theorem inverses_apply (x : Vec Ideal S192x1x8192 .bf16) (t : Fin 192) (g : Fin 64) :
    inverses x (ix2 (n0 := 192) (n1 := 64) t g) = inverseOf (row x t g) := by
  rw [inverses_form, expo_apply, inverseOf_form]

/-- The reciprocal scales with their lane axis, one element. -/
theorem inverses3_apply (x : Vec Ideal S192x1x8192 .bf16) (t : Fin 192) (g : Fin 64) :
    inverses3 x (ix3 (n0 := 192) (n1 := 64) (n2 := 1) t g 0) = inverseOf (row x t g) := by
  refine (broadcastInDim_apply _ bcast_S192x64_S192x64x1_0_1 _ _ (ix2 (n0 := 192) (n1 := 64) t g) fun a => ?_).trans (inverses_apply x t g)
  match a with
  | 0 => rfl
  | 1 => rfl

/-- The weight codes cut into groups, one element. -/
theorem weights3_apply (w : Vec Ideal S8192x16384 .fp8e4m3) (g : Fin 64) (k : Fin 128) (n : Fin 16384) :
    weights3 w (ix3 (n0 := 64) (n1 := 128) (n2 := 16384) g k n) = wcol w n g k := by
  refine shapeCast_apply w shapeCasts_S8192x16384_S64x128x16384 _ _ ?_
  rw [Shape.rowMajor_val_two, Shape.rowMajor_val_three]
  show (128 * g.val + k.val) * 16384 + n.val = (g.val * 128 + k.val) * 16384 + n.val
  omega

/-- A product of two vectors of the combined scales' shape, one element. -/
theorem mul4_form (a b : Vec Ideal S64x192x128x1 .f32) (y : S64x192x128x1.Idx) :
    mulf (F := Ideal) (φ := .f32) a b y = (a y : EReal) * b y := rfl

/-- The product of a group's scale and the weight scale at column `n`. -/
theorem combined_apply (x : Vec Ideal S192x1x8192 .bf16) (s : Vec Ideal S64x128 .f32) (g : Fin 64) (t : Fin 192) (n : Fin 16384) :
    combined x s (ix3 (n0 := 64) (n1 := 192) (n2 := 16384) g t n) = scaleOf (row x t g) * wscale s n g := by
  have hn := n.isLt
  have hm : n.val % 128 < 128 := Nat.mod_lt _ (by decide)
  refine (shapeCast_apply _ shapeCasts_S64x192x128x128_S64x192x16384 _
    (ix4 (n0 := 64) (n1 := 192) (n2 := 128) (n3 := 128) g t ⟨n.val / 128, by omega⟩ ⟨n.val % 128, hm⟩) ?_).trans ?_
  · rw [Shape.rowMajor_val_three, Shape.rowMajor_val_four]
    show ((g.val * 192 + t.val) * 128 + n.val / 128) * 128 + n.val % 128 = (g.val * 192 + t.val) * 16384 + n.val
    omega
  refine (broadcastInDim_apply _ bcast_S64x192x128x1_S64x192x128x128_0_1_2_3 _ _
    (ix4 (n0 := 64) (n1 := 192) (n2 := 128) (n3 := 1) g t ⟨n.val / 128, by omega⟩ 0) fun a => ?_).trans ?_
  · match a with
    | 0 => rfl
    | 1 => rfl
    | 2 => rfl
    | 3 => rfl
  refine (mul4_form _ _ _).trans (congrArg₂ (fun a b : EReal => a * b) ?_ ?_)
  · refine (broadcastInDim_apply _ bcast_S64x192x1x1_S64x192x128x1_0_1_2_3 _ _
      (ix4 (n0 := 64) (n1 := 192) (n2 := 1) (n3 := 1) g t 0 0) fun a => ?_).trans ?_
    · match a with
      | 0 => rfl
      | 1 => rfl
      | 2 => rfl
      | 3 => rfl
    refine (broadcastInDim_apply _ bcast_S64x192_S64x192x1x1_0_1 _ _ (ix2 (n0 := 64) (n1 := 192) g t) fun a => ?_).trans ?_
    · match a with
      | 0 => rfl
      | 1 => rfl
    refine (transpose_apply _ _ transposes_S192x64_S64x192_1_0 _ (ix2 (n0 := 192) (n1 := 64) t g) fun b => ?_).trans (scales_apply x t g)
    match b with
    | 0 => rfl
    | 1 => rfl
  · refine (broadcastInDim_apply _ bcast_S64x1x128x1_S64x192x128x1_0_1_2_3 _ _
      (ix4 (n0 := 64) (n1 := 1) (n2 := 128) (n3 := 1) g 0 ⟨n.val / 128, by omega⟩ 0) fun a => ?_).trans ?_
    · match a with
      | 0 => rfl
      | 1 => rfl
      | 2 => rfl
      | 3 => rfl
    refine broadcastInDim_apply _ bcast_S64x128_S64x1x128x1_0_2 _ _ (ix2 (n0 := 64) (n1 := 128) g ⟨n.val / 128, by omega⟩) fun a => ?_
    match a with
    | 0 => rfl
    | 1 => rfl

/-- A code before its re-laying. -/
theorem pay1_apply (x : Vec Ideal S192x1x8192 .bf16) (t : Fin 192) (g : Fin 64) (l : Fin 128) :
    k0_pay1 (groups x) (inverses3 x) (ix3 (n0 := 192) (n1 := 64) (n2 := 128) t g l) = code (row x t g l) (inverseOf (row x t g)) := by
  refine congrArg (min (Ideal.ofBits .f32 0x43E00000#32)) (congrArg (max (Ideal.ofBits .f32 0xC3E00000#32)) (congrArg₂ (· * ·) ?_ ?_))
  · exact (shapeCast_apply (groups x) shapeCasts_S192x64x128_S192x64x128 _ _ rfl).trans (groups_apply x t g l)
  · refine (broadcastTo_apply _ broadcasts_S192x64x1_S192x64x128 _ (ix3 (n0 := 192) (n1 := 64) (n2 := 1) t g 0) fun a => ?_).trans
      ((shapeCast_apply (inverses3 x) shapeCasts_S192x64x1_S192x64x1 _ _ rfl).trans (inverses3_apply x t g))
    match a with
    | 0 => rfl
    | 1 => rfl
    | 2 => rfl

/-- The codes array. -/
theorem codes_at (x : Vec Ideal S192x1x8192 .bf16) (j : S192x8192.Idx) (g : Fin 64) (t : Fin 192) (l : Fin 128)
    (h0 : (j 0).val = t.val) (h1 : (j 1).val = 128 * g.val + l.val) :
    k0_pay2 (groups x) (inverses3 x) j = code (row x t g l) (inverseOf (row x t g)) := by
  refine (shapeCast_apply _ shapeCasts_S192x64x128_S192x8192 _ (ix3 (n0 := 192) (n1 := 64) (n2 := 128) t g l) ?_).trans (pay1_apply x t g l)
  rw [Shape.rowMajor_val_three, Shape.rowMajor_val_two]
  show (t.val * 64 + g.val) * 128 + l.val = (j 0).val * 8192 + (j 1).val
  omega

end Cert.ReferenceIdeal.Hand

end
-- ==== Proof.RefProduct.lean ====
module

public import proofs.«01_k».proof.Proof.RefOut
public import proofs.«01_k».proof.Proof.Spec
public import Idealize.ShloMosaic.Lib.Pipeline.Value
public import Idealize.ShloMosaic.Lib.ValueIdx
public import Idealize.ShloMosaic.Lib.Pointwise.Index

/-! The reference's product array over the extended reals, element by element. -/

@[expose] public section

set_option maxRecDepth 16384

noncomputable section

namespace Cert.ReferenceIdeal.Hand

open Cert.ReferenceIdeal.Gen
open Idealize.ShloMosaic
open Cert.Scale

/-- A rounding to the result's format is the identity over the extended reals. -/
theorem trunc_form (u : FVec Ideal S192x16384 .f32) (y : S192x16384.Idx) : truncf .bf16 u bitsLt_bf16_f32 y = u y := rfl

/-- The product's block, read at one element, of any loads. -/
theorem pay3_form (v0 : Vec Ideal S192x64x128 .f32) (v2 : Vec Ideal S192x64x1 .f32) (v13 : Vec Ideal S64x128x16384 .fp8e4m3)
    (v16 : Vec Ideal S64x192x16384 .f32) (y : S192x16384.Idx) :
    k0_pay3 v0 v2 v13 v16 y = multiReduction .add [0] S192x16384
      (mulf (matmul (F := Ideal) (φ₁ := .fp8e4m3) (φ₂ := .fp8e4m3) dot_S192x64x128_S64x128x16384_S64x192x16384_2_1_0_2_1_0 none (k0_pay1 v0 v2)
        (shapeCast (α := Ideal .fp8e4m3) S64x128x16384 v13 shapeCasts_S64x128x16384_S64x128x16384) (constant S64x192x16384 .f32 0x00000000#32))
        (shapeCast S64x192x16384 v16 shapeCasts_S64x192x16384_S64x192x16384))
      0x00000000#32 reduces_S64x192x16384_S192x16384 (.inl rfl) rfl y := by
  unfold k0_pay3
  generalize k0_pay1 v0 v2 = p
  exact trunc_form _ y

/-- The sum over the groups, one element. -/
theorem sum_form (u : FVec Ideal S64x192x16384 .f32) (y : S192x16384.Idx) :
    multiReduction .add [0] S192x16384 u 0x00000000#32 reduces_S64x192x16384_S192x16384 (.inl rfl) rfl y
      = ∑ g : Fin 64, u (reduces_S64x192x16384_S192x16384.lift y g) :=
  Ideal.multiReduction_add_single (φ := .f32) u 0x00000000#32 reduces_S64x192x16384_S192x16384 (.inl rfl) rfl y

/-- The product array. -/
theorem product_eq (x : Vec Ideal S192x1x8192 .bf16) (w : Vec Ideal S8192x16384 .fp8e4m3) (s : Vec Ideal S64x128 .f32) (t : Fin 192) (n : Fin 16384) :
    k0_pay3 (groups x) (inverses3 x) (weights3 w) (combined x s) (ix2 (n0 := 192) (n1 := 16384) t n)
      = productOf (row x t) (wcol w n) (wscale s n) := by
  refine (pay3_form _ _ _ _ _).trans ((sum_form _ _).trans ?_)
  unfold productOf
  refine Finset.sum_congr rfl fun g _ => ?_
  have e : reduces_S64x192x16384_S192x16384.lift (ix2 (n0 := 192) (n1 := 16384) t n) g
      = (ix3 (n0 := 64) (n1 := 192) (n2 := 16384) g t n : S64x192x16384.Idx) := by
    refine funext fun a => ?_
    match a with
    | 0 => rfl
    | 1 => rfl
    | 2 => rfl
  rw [e]
  refine congrArg₂ (· * ·) ?_ ((shapeCast_apply (combined x s) shapeCasts_S64x192x16384_S64x192x16384 _ _ rfl).trans (combined_apply x s g t n))
  refine (Ideal.matmul_constant_zero_apply (φ₁ := .fp8e4m3) (φ₂ := .fp8e4m3) dot_S192x64x128_S64x128x16384_S64x192x16384_2_1_0_2_1_0 none _ _ _).trans ?_
  refine (Equiv.sum_comp (ValueIdx.contrEquiv1 dot_S192x64x128_S64x128x16384_S64x192x16384_2_1_0_2_1_0 128 rfl rfl).symm _).symm.trans ?_
  refine Finset.sum_congr rfl fun k _ => congrArg₂ (· * ·) ?_ ?_
  · refine Eq.trans (congrArg _ ?_) (pay1_apply x t g k)
    refine funext fun a => ?_
    match a with
    | 0 => rfl
    | 1 => rfl
    | 2 => rfl
  · refine (shapeCast_apply (weights3 w) shapeCasts_S64x128x16384_S64x128x16384 _ _ rfl).trans (Eq.trans (congrArg _ ?_) (weights3_apply w g k n))
    refine funext fun a => ?_
    match a with
    | 0 => rfl
    | 1 => rfl
    | 2 => rfl

end Cert.ReferenceIdeal.Hand

end
-- ==== Proof.Equation.lean ====
module

public import proofs.«01_k».proof.Proof.KernelOut
public import proofs.«01_k».proof.Proof.Launch
public import proofs.«01_k».proof.Proof.RefArrays
public import proofs.«01_k».proof.Proof.RefProduct

/-! The kernel's result arrays are the reference's. -/

@[expose] public section

set_option maxRecDepth 16384

noncomputable section

namespace Cert.Equation

open Idealize.ShloMosaic Idealize.ShloMosaic.TcCoe Idealize.SL.Sem
open Cert.KernelIdeal (S192x1x8192 S8192x16384 S64x128 S192x16384 S192x8192 S192x64)

/-- The kernel's product array is the reference's. -/
theorem products (x : Vec Ideal S192x1x8192 .bf16) (w : Vec Ideal S8192x16384 .fp8e4m3) (s : Vec Ideal S64x128 .f32) :
    Cert.KernelIdeal.Hand.product (Cert.KernelIdeal.Hand.flat x) w s
      = Cert.ReferenceIdeal.Gen.k0_pay3 (Cert.ReferenceIdeal.Hand.groups x) (Cert.ReferenceIdeal.Hand.inverses3 x)
          (Cert.ReferenceIdeal.Hand.weights3 w) (Cert.ReferenceIdeal.Hand.combined x s) := by
  funext y
  have e : y = (ix2 (n0 := 192) (n1 := 16384) (y 0) (y 1) : S192x16384.Idx) := by
    refine funext fun a => ?_
    match a with
    | 0 => rfl
    | 1 => rfl
  refine (Cert.KernelIdeal.Hand.product_eq x w s y (y 0) (y 1) rfl rfl).trans (Eq.symm ?_)
  exact (congrArg _ e).trans (Cert.ReferenceIdeal.Hand.product_eq x w s (y 0) (y 1))

/-- The kernel's codes are the reference's. -/
theorem codes (x : Vec Ideal S192x1x8192 .bf16) :
    Cert.KernelIdeal.Hand.allCodes (Cert.KernelIdeal.Hand.flat x)
      = Cert.ReferenceIdeal.Gen.k0_pay2 (Cert.ReferenceIdeal.Hand.groups x) (Cert.ReferenceIdeal.Hand.inverses3 x) := by
  funext y
  have h : (y 1).val < 8192 := (y 1).isLt
  have hm : (y 1).val % 128 < 128 := Nat.mod_lt _ (by decide)
  have e : (y 1).val = 128 * ((y 1).val / 128) + (y 1).val % 128 := (Nat.div_add_mod _ _).symm
  refine (Cert.KernelIdeal.Hand.codes_at x y ⟨(y 1).val / 128, by omega⟩ (y 0) ⟨(y 1).val % 128, hm⟩ rfl e).trans (Eq.symm ?_)
  exact Cert.ReferenceIdeal.Hand.codes_at x y ⟨(y 1).val / 128, by omega⟩ (y 0) ⟨(y 1).val % 128, hm⟩ rfl e

/-- The kernel's scales are the reference's. -/
theorem scales (x : Vec Ideal S192x1x8192 .bf16) :
    Cert.KernelIdeal.Gen.k0_pay19 (Cert.KernelIdeal.Hand.packed (Cert.KernelIdeal.Hand.flat x) 64 le_rfl) = Cert.ReferenceIdeal.Hand.scales x := by
  funext y
  have e : y = (ix2 (n0 := 192) (n1 := 64) (y 0) (y 1) : S192x64.Idx) := by
    refine funext fun a => ?_
    match a with
    | 0 => rfl
    | 1 => rfl
  refine (Cert.KernelIdeal.Hand.scales_at x y (y 0) (y 1) rfl rfl).trans (Eq.symm ?_)
  exact (congrArg _ e).trans (Cert.ReferenceIdeal.Hand.scales_apply x (y 0) (y 1))

end Cert.Equation

namespace Cert.KernelIdeal.Hand

open Cert.KernelIdeal.Gen
open Idealize.ShloMosaic Idealize.ShloMosaic.TcCoe Idealize.SL.Sem

/-- What a run of the kernel leaves in its three result arrays. -/
theorem results {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0_0)
        = product (flat (m ((c.tc : Thread nD τ).loc main_arg0))) (m ((c.tc : Thread nD τ).loc main_arg1)) (m ((c.tc : Thread nD τ).loc main_arg2))
      ∧ r.2.mem ((c.tc : Thread nD τ).loc main_v0_1) = allCodes (flat (m ((c.tc : Thread nD τ).loc main_arg0)))
      ∧ r.2.mem ((c.tc : Thread nD τ).loc main_v0_2) = k0_pay19 (packed (flat (m ((c.tc : Thread nD τ).loc main_arg0))) 64 le_rfl)) :=
  (θ_run defs _ _).mono (fun _ h c => ⟨((h.1 c).1 3).trans (final_3 m c), ((h.1 c).1 4).trans (final_4 m c), ((h.1 c).1 5).trans (final_5 m c)⟩)
    (run_main m ρ)

end Cert.KernelIdeal.Hand

namespace Cert.ReferenceIdeal.Hand

open Cert.ReferenceIdeal.Gen
open Idealize.ShloMosaic Idealize.ShloMosaic.TcCoe Idealize.SL.Sem

/-- What a run of the reference leaves in its three result arrays, its arguments unchanged. -/
theorem results {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v50_0)
        = k0_pay3 (groups (m ((c.tc : Thread nD τ).loc main_arg0))) (inverses3 (m ((c.tc : Thread nD τ).loc main_arg0)))
            (weights3 (m ((c.tc : Thread nD τ).loc main_arg1))) (combined (m ((c.tc : Thread nD τ).loc main_arg0)) (m ((c.tc : Thread nD τ).loc main_arg2)))
      ∧ r.2.mem ((c.tc : Thread nD τ).loc main_v50_1)
        = k0_pay2 (groups (m ((c.tc : Thread nD τ).loc main_arg0))) (inverses3 (m ((c.tc : Thread nD τ).loc main_arg0)))
      ∧ r.2.mem ((c.tc : Thread nD τ).loc main_v30) = scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(Value.post4 m r h c).trans (final_4 m c), (Value.post5 m r h c).trans (final_5 m c),
      ((h c).2 main_v30 (Pipeline.mem_restRefs_of main_v30 (by decide) (by decide))).trans (V_scales m c),
      Value.kept_main_arg0 m r h c, Value.kept_main_arg1 m r h c, Value.kept_main_arg2 m r h c⟩)
    (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Bits.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference, run from equal arguments, end with equal results: the product, the codes and the scales. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.product (Cert.KernelIdeal.Hand.flat (m ((c.tc : Thread _ _).loc Cert.KernelIdeal.main_arg0)))
      (m ((c.tc : Thread _ _).loc Cert.KernelIdeal.main_arg1)) (m ((c.tc : Thread _ _).loc Cert.KernelIdeal.main_arg2)),
    fun c => Cert.KernelIdeal.Hand.allCodes (Cert.KernelIdeal.Hand.flat (m ((c.tc : Thread _ _).loc Cert.KernelIdeal.main_arg0))),
    fun c => Cert.KernelIdeal.Gen.k0_pay19 (Cert.KernelIdeal.Hand.packed (Cert.KernelIdeal.Hand.flat (m ((c.tc : Thread _ _).loc Cert.KernelIdeal.main_arg0))) 64 le_rfl),
    ?_, ?_⟩
  · refine (θ_run _ _ _).mono (fun r h c => ?_) (θ_run_and (Cert.KernelIdeal.Hand.results m g) (Cert.KernelIdeal.Hand.frame m g))
    exact ⟨(h.1 c).1, (h.1 c).2.1, (h.1 c).2.2, h.2.1 c⟩
  · refine (θ_run _ _ _).mono (fun r h c => ?_) (Cert.ReferenceIdeal.Hand.results m' g')
    obtain ⟨h0, h1, h2, h3⟩ := h c
    obtain ⟨e0, e1, e2⟩ := hm c
    refine ⟨h0.trans ?_, h1.trans ?_, h2.trans ?_, h3⟩
    · rw [e0, e1, e2]
      exact (Cert.Equation.products _ _ _).symm
    · rw [e0]
      exact (Cert.Equation.codes _).symm
    · rw [e0]
      exact (Cert.Equation.scales _).symm

theorem claim : Cert.Claim := ⟨Cert.Kernel.Gen.facts, Cert.KernelIdeal.Gen.facts, Cert.ReferenceIdeal.Gen.facts, by
  refine ⟨fun m ρ _ => Cert.Kernel.Hand.frame m ρ, fun m ρ _ => Cert.KernelIdeal.Hand.frame m ρ,
    fun m ρ _ => Cert.ReferenceIdeal.Gen.frame m ρ, trivial, algebraic⟩⟩

end Cert.Proof

end
